-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S12x128x4096 : Shape := ⟨3, ![12, 128, 4096]⟩
abbrev S4x8x128 : Shape := ⟨3, ![4, 8, 128]⟩
abbrev S_ : Shape := ⟨0, ![]⟩
abbrev S12 : Shape := ⟨1, ![12]⟩
abbrev S3 : Shape := ⟨1, ![3]⟩
abbrev S1 : Shape := ⟨1, ![1]⟩
abbrev S1x128x4096 : Shape := ⟨3, ![1, 128, 4096]⟩
abbrev S128x4096 : Shape := ⟨2, ![128, 4096]⟩
abbrev S1024x512 : Shape := ⟨2, ![1024, 512]⟩
abbrev S1x1024x512 : Shape := ⟨3, ![1, 1024, 512]⟩
abbrev S1x1x1 : Shape := ⟨3, ![1, 1, 1]⟩
abbrev S128x512 : Shape := ⟨2, ![128, 512]⟩
abbrev S1x128x512 : Shape := ⟨3, ![1, 128, 512]⟩
abbrev S8x128 : Shape := ⟨2, ![8, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S4096x512, .f32⟩
  | .hbm, ⟨2, _⟩ => ⟨S4096x512, .f32⟩
  | .local _ .vmem, ⟨0, _⟩ => ⟨S1024x4096, .bf16⟩
  | .local _ .vmem, ⟨1, _⟩ => ⟨S4096x512, .f32⟩
  | .local _ .vmem, ⟨2, _⟩ => ⟨S4096x512, .bf16⟩
  | .local _ .vmem, ⟨3, _⟩ => ⟨S12x128x4096, .bf16⟩
  | .local _ .vmem, ⟨4, _⟩ => ⟨S12x128x4096, .bf16⟩
  | .local _ .vmem, ⟨5, _⟩ => ⟨S4x8x128, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_23 : BitVec 32 := 1#32
  let v31 : BitVec 32 := Scalar.muli v25 c1_i32_23
  let v32 : BitVec 32 := Scalar.addi c0_i32_24 v31
  v32.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_32 : BitVec 32 := 1#32
  let v40 : BitVec 32 := Scalar.muli v14 c1_i32_32
  let v41 : BitVec 32 := Scalar.addi c0_i32_33 v40
  v41.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_40 : BitVec 32 := 1#32
  let v49 : BitVec 32 := Scalar.muli v25 c1_i32_40
  let v50 : BitVec 32 := Scalar.addi c0_i32_41 v49
  v50.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_48 : BitVec 32 := 1#32
  let v58 : BitVec 32 := Scalar.muli v14 c1_i32_48
  let v59 : BitVec 32 := Scalar.addi c0_i32_49 v58
  v59.toNat
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_56 : BitVec 32 := 1#32
  let v67 : BitVec 32 := Scalar.muli v25 c1_i32_56
  let v68 : BitVec 32 := Scalar.addi c0_i32_57 v67
  v68.toNat
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_64 : BitVec 32 := 1#32
  let v76 : BitVec 32 := Scalar.muli v14 c1_i32_64
  let v77 : BitVec 32 := Scalar.addi c0_i32_65 v76
  v77.toNat
def k0_dev9 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_71 : BitVec 32 := 1#32
  let v85 : BitVec 32 := Scalar.muli v25 c1_i32_71
  let v86 : BitVec 32 := Scalar.addi c0_i32_72 v85
  v86.toNat
def k0_dev10 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_79 : BitVec 32 := 1#32
  let v94 : BitVec 32 := Scalar.muli v14 c1_i32_79
  let v95 : BitVec 32 := Scalar.addi c0_i32_80 v94
  v95.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v111 : BitVec 32 := Scalar.muli v2 c1024_i32
  let v116 : Index := Scalar.indexCast v111
  let c0_92 : Index := 0#32
  ![v116.toNat, 0]
def k0_dev11 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_107 : BitVec 32 := 1#32
  let v129 : BitVec 32 := Scalar.muli v25 c1_i32_107
  let v130 : BitVec 32 := Scalar.addi c0_i32_108 v129
  v130.toNat
def k0_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_126 : BitVec 32 := 1#32
  let v146 : BitVec 32 := Scalar.muli v14 c1_i32_126
  let v147 : BitVec 32 := Scalar.addi c0_i32_127 v146
  v147.toNat
def k0_dev13 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_144 : BitVec 32 := 1#32
  let v163 : BitVec 32 := Scalar.muli v25 c1_i32_144
  let v164 : BitVec 32 := Scalar.addi c0_i32_145 v163
  v164.toNat
def k0_dev14 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_163 : BitVec 32 := 1#32
  let v180 : BitVec 32 := Scalar.muli v14 c1_i32_163
  let v181 : BitVec 32 := Scalar.addi c0_i32_164 v180
  v181.toNat
def k0_dev15 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_181 : BitVec 32 := 1#32
  let v197 : BitVec 32 := Scalar.muli v25 c1_i32_181
  let v198 : BitVec 32 := Scalar.addi c0_i32_182 v197
  v198.toNat
def k0_dev16 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_200 : BitVec 32 := 1#32
  let v214 : BitVec 32 := Scalar.muli v14 c1_i32_200
  let v215 : BitVec 32 := Scalar.addi c0_i32_201 v214
  v215.toNat
def k0_dev17 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_218 : BitVec 32 := 1#32
  let v231 : BitVec 32 := Scalar.muli v25 c1_i32_218
  let v232 : BitVec 32 := Scalar.addi c0_i32_219 v231
  v232.toNat
def k0_dev18 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_237 : BitVec 32 := 1#32
  let v248 : BitVec 32 := Scalar.muli v14 c1_i32_237
  let v249 : BitVec 32 := Scalar.addi c0_i32_238 v248
  v249.toNat
def k0_off2 (d0 : Dev nD) (c1_i32_244 : BitVec 32) (c0_i32_262 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_243 : BitVec 32 := 4#32
  let v258 : BitVec 32 := Scalar.addi v2 c4_i32_243
  let v259 : BitVec 32 := Scalar.subi v258 c1_i32_244
  let c4_i32_245 : BitVec 32 := 4#32
  let c0_i32_246 : BitVec 32 := 0#32
  let v260 : BitVec 1 := Scalar.cmpi .eq c4_i32_245 c0_i32_246
  let c1_i32_247 : BitVec 32 := 1#32
  let v261 : BitVec 32 := Scalar.select v260 c1_i32_247 c4_i32_245
  let v262 : BitVec 32 := Scalar.remsi v259 v261
  let c0_i32_249 : BitVec 32 := 0#32
  let v264 : BitVec 1 := Scalar.cmpi .slt v262 c0_i32_249
  let c0_i32_250 : BitVec 32 := 0#32
  let v265 : BitVec 1 := Scalar.cmpi .slt v261 c0_i32_250
  let v266 : BitVec 1 := Scalar.xori v264 v265
  let c0_i32_248 : BitVec 32 := 0#32
  let v263 : BitVec 1 := Scalar.cmpi .ne v262 c0_i32_248
  let v267 : BitVec 1 := Scalar.andi v266 v263
  let v268 : BitVec 32 := Scalar.addi v262 v261
  let v269 : BitVec 32 := Scalar.select v267 v268 v262
  let c1024_i32_261 : BitVec 32 := 1024#32
  let v283 : BitVec 32 := Scalar.muli v269 c1024_i32_261
  let v284 : BitVec 32 := Scalar.addi v283 c0_i32_262
  let v289 : Index := Scalar.indexCast v284
  let c0_267 : Index := 0#32
  ![v289.toNat, 0]
def k0_off3 (d0 : Dev nD) (c1_i32_251 : BitVec 32) (c0_i32_274 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v270 : BitVec 32 := Scalar.addi v2 c1_i32_251
  let c4_i32_252 : BitVec 32 := 4#32
  let c0_i32_253 : BitVec 32 := 0#32
  let v271 : BitVec 1 := Scalar.cmpi .eq c4_i32_252 c0_i32_253
  let c1_i32_254 : BitVec 32 := 1#32
  let v272 : BitVec 32 := Scalar.select v271 c1_i32_254 c4_i32_252
  let v273 : BitVec 32 := Scalar.remsi v270 v272
  let c0_i32_256 : BitVec 32 := 0#32
  let v275 : BitVec 1 := Scalar.cmpi .slt v273 c0_i32_256
  let c0_i32_257 : BitVec 32 := 0#32
  let v276 : BitVec 1 := Scalar.cmpi .slt v272 c0_i32_257
  let v277 : BitVec 1 := Scalar.xori v275 v276
  let c0_i32_255 : BitVec 32 := 0#32
  let v274 : BitVec 1 := Scalar.cmpi .ne v273 c0_i32_255
  let v278 : BitVec 1 := Scalar.andi v277 v274
  let v279 : BitVec 32 := Scalar.addi v273 v272
  let v280 : BitVec 32 := Scalar.select v278 v279 v273
  let c1024_i32_272 : BitVec 32 := 1024#32
  let v298 : BitVec 32 := Scalar.muli v280 c1024_i32_272
  let c512_i32_273 : BitVec 32 := 512#32
  let v299 : BitVec 32 := Scalar.addi v298 c512_i32_273
  let v300 : BitVec 32 := Scalar.addi v299 c0_i32_274
  let v305 : Index := Scalar.indexCast v300
  let c0_279 : Index := 0#32
  ![v305.toNat, 0]
def k0_dev19 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_360 : BitVec 32 := 1#32
  let v413 : BitVec 32 := Scalar.muli v25 c1_i32_360
  let v414 : BitVec 32 := Scalar.addi c0_i32_361 v413
  v414.toNat
def k0_dev20 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_380 : BitVec 32 := 1#32
  let v431 : BitVec 32 := Scalar.muli v14 c1_i32_380
  let v432 : BitVec 32 := Scalar.addi c0_i32_381 v431
  v432.toNat
def k0_dev21 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_399 : BitVec 32 := 1#32
  let v449 : BitVec 32 := Scalar.muli v25 c1_i32_399
  let v450 : BitVec 32 := Scalar.addi c0_i32_400 v449
  v450.toNat
def k0_dev22 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_419 : BitVec 32 := 1#32
  let v467 : BitVec 32 := Scalar.muli v14 c1_i32_419
  let v468 : BitVec 32 := Scalar.addi c0_i32_420 v467
  v468.toNat
def k0_dev23 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_438 : BitVec 32 := 1#32
  let v485 : BitVec 32 := Scalar.muli v25 c1_i32_438
  let v486 : BitVec 32 := Scalar.addi c0_i32_439 v485
  v486.toNat
def k0_dev24 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_458 : BitVec 32 := 1#32
  let v503 : BitVec 32 := Scalar.muli v14 c1_i32_458
  let v504 : BitVec 32 := Scalar.addi c0_i32_459 v503
  v504.toNat
def k0_dev25 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_477 : BitVec 32 := 1#32
  let v521 : BitVec 32 := Scalar.muli v25 c1_i32_477
  let v522 : BitVec 32 := Scalar.addi c0_i32_478 v521
  v522.toNat
def k0_dev26 (d0 : Dev nD) : Nat :=
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_497 : BitVec 32 := 1#32
  let v539 : BitVec 32 := Scalar.muli v14 c1_i32_497
  let v540 : BitVec 32 := Scalar.addi c0_i32_498 v539
  v540.toNat
def k0_off4 (d0 : Dev nD) (c0_i32_626 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_606 : BitVec 32 := 1#32
  let v696 : BitVec 32 := Scalar.addi v2 c1_i32_606
  let c4_i32_607 : BitVec 32 := 4#32
  let c0_i32_608 : BitVec 32 := 0#32
  let v697 : BitVec 1 := Scalar.cmpi .eq c4_i32_607 c0_i32_608
  let c1_i32_609 : BitVec 32 := 1#32
  let v698 : BitVec 32 := Scalar.select v697 c1_i32_609 c4_i32_607
  let v699 : BitVec 32 := Scalar.remsi v696 v698
  let c0_i32_611 : BitVec 32 := 0#32
  let v701 : BitVec 1 := Scalar.cmpi .slt v699 c0_i32_611
  let c0_i32_612 : BitVec 32 := 0#32
  let v702 : BitVec 1 := Scalar.cmpi .slt v698 c0_i32_612
  let v703 : BitVec 1 := Scalar.xori v701 v702
  let c0_i32_610 : BitVec 32 := 0#32
  let v700 : BitVec 1 := Scalar.cmpi .ne v699 c0_i32_610
  let v704 : BitVec 1 := Scalar.andi v703 v700
  let v705 : BitVec 32 := Scalar.addi v699 v698
  let v706 : BitVec 32 := Scalar.select v704 v705 v699
  let c1024_i32_625 : BitVec 32 := 1024#32
  let v717 : BitVec 32 := Scalar.muli v706 c1024_i32_625
  let v718 : BitVec 32 := Scalar.addi v717 c0_i32_626
  let v723 : Index := Scalar.indexCast v718
  let c0_631 : Index := 0#32
  ![v723.toNat, 0]
def k0_off5 (d0 : Dev nD) (c0_i32_648 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1024_i32_646 : BitVec 32 := 1024#32
  let v740 : BitVec 32 := Scalar.muli v14 c1024_i32_646
  let c512_i32_647 : BitVec 32 := 512#32
  let v741 : BitVec 32 := Scalar.addi v740 c512_i32_647
  let v742 : BitVec 32 := Scalar.addi v741 c0_i32_648
  let v747 : Index := Scalar.indexCast v742
  let c0_653 : Index := 0#32
  ![v747.toNat, 0]
def k0_dev27 (d0 : Dev nD) : Nat :=
  let c0_i32_796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_784 : BitVec 32 := 1#32
  let v899 : BitVec 32 := Scalar.addi v2 c1_i32_784
  let c4_i32_785 : BitVec 32 := 4#32
  let c0_i32_786 : BitVec 32 := 0#32
  let v900 : BitVec 1 := Scalar.cmpi .eq c4_i32_785 c0_i32_786
  let c1_i32_787 : BitVec 32 := 1#32
  let v901 : BitVec 32 := Scalar.select v900 c1_i32_787 c4_i32_785
  let v902 : BitVec 32 := Scalar.remsi v899 v901
  let c0_i32_789 : BitVec 32 := 0#32
  let v904 : BitVec 1 := Scalar.cmpi .slt v902 c0_i32_789
  let c0_i32_790 : BitVec 32 := 0#32
  let v905 : BitVec 1 := Scalar.cmpi .slt v901 c0_i32_790
  let v906 : BitVec 1 := Scalar.xori v904 v905
  let c0_i32_788 : BitVec 32 := 0#32
  let v903 : BitVec 1 := Scalar.cmpi .ne v902 c0_i32_788
  let v907 : BitVec 1 := Scalar.andi v906 v903
  let v908 : BitVec 32 := Scalar.addi v902 v901
  let v909 : BitVec 32 := Scalar.select v907 v908 v902
  let c1_i32_795 : BitVec 32 := 1#32
  let v910 : BitVec 32 := Scalar.muli v909 c1_i32_795
  let v911 : BitVec 32 := Scalar.addi c0_i32_796 v910
  v911.toNat
def k0_dev28 (d0 : Dev nD) : Nat :=
  let c0_i32_813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_801 : BitVec 32 := 2#32
  let v920 : BitVec 32 := Scalar.addi v2 c2_i32_801
  let c4_i32_802 : BitVec 32 := 4#32
  let c0_i32_803 : BitVec 32 := 0#32
  let v921 : BitVec 1 := Scalar.cmpi .eq c4_i32_802 c0_i32_803
  let c1_i32_804 : BitVec 32 := 1#32
  let v922 : BitVec 32 := Scalar.select v921 c1_i32_804 c4_i32_802
  let v923 : BitVec 32 := Scalar.remsi v920 v922
  let c0_i32_806 : BitVec 32 := 0#32
  let v925 : BitVec 1 := Scalar.cmpi .slt v923 c0_i32_806
  let c0_i32_807 : BitVec 32 := 0#32
  let v926 : BitVec 1 := Scalar.cmpi .slt v922 c0_i32_807
  let v927 : BitVec 1 := Scalar.xori v925 v926
  let c0_i32_805 : BitVec 32 := 0#32
  let v924 : BitVec 1 := Scalar.cmpi .ne v923 c0_i32_805
  let v928 : BitVec 1 := Scalar.andi v927 v924
  let v929 : BitVec 32 := Scalar.addi v923 v922
  let v930 : BitVec 32 := Scalar.select v928 v929 v923
  let c1_i32_812 : BitVec 32 := 1#32
  let v931 : BitVec 32 := Scalar.muli v930 c1_i32_812
  let v932 : BitVec 32 := Scalar.addi c0_i32_813 v931
  v932.toNat
def k0_dev29 (d0 : Dev nD) : Nat :=
  let c0_i32_830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_818 : BitVec 32 := 3#32
  let v941 : BitVec 32 := Scalar.addi v2 c3_i32_818
  let c4_i32_819 : BitVec 32 := 4#32
  let c0_i32_820 : BitVec 32 := 0#32
  let v942 : BitVec 1 := Scalar.cmpi .eq c4_i32_819 c0_i32_820
  let c1_i32_821 : BitVec 32 := 1#32
  let v943 : BitVec 32 := Scalar.select v942 c1_i32_821 c4_i32_819
  let v944 : BitVec 32 := Scalar.remsi v941 v943
  let c0_i32_823 : BitVec 32 := 0#32
  let v946 : BitVec 1 := Scalar.cmpi .slt v944 c0_i32_823
  let c0_i32_824 : BitVec 32 := 0#32
  let v947 : BitVec 1 := Scalar.cmpi .slt v943 c0_i32_824
  let v948 : BitVec 1 := Scalar.xori v946 v947
  let c0_i32_822 : BitVec 32 := 0#32
  let v945 : BitVec 1 := Scalar.cmpi .ne v944 c0_i32_822
  let v949 : BitVec 1 := Scalar.andi v948 v945
  let v950 : BitVec 32 := Scalar.addi v944 v943
  let v951 : BitVec 32 := Scalar.select v949 v950 v944
  let c1_i32_829 : BitVec 32 := 1#32
  let v952 : BitVec 32 := Scalar.muli v951 c1_i32_829
  let v953 : BitVec 32 := Scalar.addi c0_i32_830 v952
  v953.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 14
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Cells.lean ====
/-
The ring of four devices, the semaphores of the kernel by what they count, and the buffers' parts.

The 24 block copies are numbered in program order: copy `p` goes into slot `p / 2` of the clockwise buffer (even
`p`, sent to the next device) or of the counter-clockwise one (odd `p`, sent to the previous device). Copy `p + 8`
forwards what copy `p` brought.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingGemm

open Cert.KernelIdeal Cert.KernelIdeal.Gen
open Idealize.ShloMosaic
open Idealize.ShloMosaic.TcCoe

/-! ## The ring -/

set_option backward.proofsInPublic true in
/-- The device `k` places on. -/
def up (k : ℕ) (c : Dev nD) : Dev nD := ⟨(c.val + k) % 4, Nat.mod_lt _ (by decide)⟩

/-- Which way copy `p` goes: `false` to the next device, `true` to the previous one. -/
def way (p : Fin 24) : Bool := p.val % 2 == 1
/-- The device copy `p` is addressed to. -/
def peer (p : Fin 24) (c : Dev nD) : Dev nD := if way p then up 3 c else up 1 c
/-- The device copy `p` comes from. -/
def from' (p : Fin 24) (c : Dev nD) : Dev nD := if way p then up 1 c else up 3 c

theorem peer_from' (p : Fin 24) (c : Dev nD) : peer p (from' p c) = c := by revert p c; decide
theorem from'_peer (p : Fin 24) (c : Dev nD) : from' p (peer p c) = c := by revert p c; decide

/-! ## The semaphores by their roles -/

/-- What a semaphore of the kernel counts: entries to the kernel, the weights' arrival, copy `p` leaving and
    landing, the `i`-th maximum leaving and landing. -/
inductive Role
  | bar | wsm
  | snd (p : Fin 24) | rcv (p : Fin 24)
  | asn (i : Fin 3) | arc (i : Fin 3)
  deriving DecidableEq

set_option backward.proofsInPublic true in
/-- The roles family by family. -/
def roleSum : Unit ⊕ Unit ⊕ Fin 24 ⊕ Fin 24 ⊕ Fin 3 ⊕ Fin 3 ≃ Role where
  toFun
    | .inl _ => .bar
    | .inr (.inl _) => .wsm
    | .inr (.inr (.inl p)) => .snd p
    | .inr (.inr (.inr (.inl p))) => .rcv p
    | .inr (.inr (.inr (.inr (.inl i)))) => .asn i
    | .inr (.inr (.inr (.inr (.inr i)))) => .arc i
  invFun
    | .bar => .inl ()
    | .wsm => .inr (.inl ())
    | .snd p => .inr (.inr (.inl p))
    | .rcv p => .inr (.inr (.inr (.inl p)))
    | .asn i => .inr (.inr (.inr (.inr (.inl i))))
    | .arc i => .inr (.inr (.inr (.inr (.inr i))))
  left_inv := by rintro (_ | _ | _ | _ | _ | _) <;> rfl
  right_inv := by rintro (_ | _ | _ | _ | _ | _) <;> rfl

instance : Fintype Role := Fintype.ofEquiv _ roleSum

abbrev barS : Sem sig := (SemArray.scalar (sig.barrier 0 rfl) : Sems sig S_).sem

set_option backward.proofsInPublic true in
/-- The semaphore of a role: the runtime's barrier, or a DMA semaphore. -/
def csem : Role → SemLoc sig
  | .bar => .reg barS
  | .wsm => .dma (⟨2, by decide⟩ : Fin 57)
  | .snd p => .dma (⟨3 + 24 * (p.val % 2) + p.val / 2, by omega⟩ : Fin 57)
  | .rcv p => .dma (⟨15 + 24 * (p.val % 2) + p.val / 2, by omega⟩ : Fin 57)
  | .asn i => .dma (⟨51 + i.val, by omega⟩ : Fin 57)
  | .arc i => .dma (⟨54 + i.val, by omega⟩ : Fin 57)

theorem csem_inj : Function.Injective csem := by
  have h : ∀ a b : Role, csem a = csem b → a = b := by decide +kernel
  exact fun a b => h a b

abbrev kcell (ck : Dev nD × Role) : GSem nD τ sig := ((ck.1 : Thread nD τ), csem ck.2)

open Classical in
/-- The role of a semaphore, if the kernel's protocol uses it. -/
def roleOf (s : SemLoc sig) : Option Role := if h : ∃ k, csem k = s then some h.choose else none

theorem roleOf_csem (k : Role) : roleOf (csem k) = some k := by
  unfold roleOf
  rw [dif_pos ⟨k, rfl⟩]
  exact congrArg some (csem_inj (Exists.choose_spec (⟨k, rfl⟩ : ∃ k', csem k' = csem k)))

theorem kcell_inj {a b : Dev nD × Role} (h : kcell a = kcell b) : a = b := by
  obtain ⟨c, k⟩ := a; obtain ⟨c', k'⟩ := b
  have h1 := congrArg (fun g : GSem nD τ sig => g.1.1) h
  have h2 := csem_inj (congrArg (fun g : GSem nD τ sig => g.2) h)
  exact Prod.ext h1 h2

/-! ## The buffers -/

abbrev xM : Memref sig .tc .vmem S1024x4096 .bf16 := Memref.whole cc0_stg0_0
abbrev hM : Memref sig .tc .hbm S4096x512 .f32 := Memref.whole main_arg1
abbrev oM : Memref sig .tc .vmem S4096x512 .f32 := Memref.whole cc0_stg1_0
abbrev wM : Memref sig .tc .vmem S4096x512 .bf16 := Memref.whole cc0_scratch0
abbrev aM : Memref sig .tc .vmem S4x8x128 .f32 := Memref.whole cc0_scratch3

/-- The two receive buffers. -/
def bM : Bool → Memref sig .tc .vmem S12x128x4096 .bf16
  | false => Memref.whole cc0_scratch1
  | true => Memref.whole cc0_scratch2

theorem slot_inb (p : Fin 24) : ∀ a, (![p.val / 2, 0, 0] : Fin 3 → ℕ) a + S1x128x4096.size a ≤ S12x128x4096.size a := by
  revert p; decide

/-- The part of a receive buffer that slot `p / 2` is, with its leading axis of one. -/
def slotR (p : Fin 24) : Rect S12x128x4096 := Rect.unit (s := S12x128x4096) ![p.val / 2, 0, 0] S1x128x4096.size (slot_inb p)
/-- Where copy `p` lands. -/
def slotM (p : Fin 24) : Memref sig .tc .vmem S128x4096 .bf16 :=
  ((bM (way p)).slice (slotR p) (fun _ => rfl)).squeeze S128x4096 squeezes_S1x128x4096_S128x4096

theorem chunk_inb (p : Fin 24) : ∀ a, (![512 * (p.val % 2) + 128 * (p.val / 2 % 4), 0] : Fin 2 → ℕ) a + S128x4096.size a ≤ S1024x4096.size a := by
  revert p; decide

/-- The rows of the device's own block that copy `p < 8` sends. -/
def chunkM (p : Fin 24) : Memref sig .tc .vmem S128x4096 .bf16 :=
  xM.slice (Rect.unit (s := S1024x4096) ![512 * (p.val % 2) + 128 * (p.val / 2 % 4), 0] S128x4096.size (chunk_inb p)) (fun _ => rfl)

/-- The copy whose landed rows copy `p` forwards (`8 ≤ p`). -/
def prev (p : Fin 24) : Fin 24 := ⟨p.val - 8, by omega⟩
/-- What copy `p` reads. -/
def srcM (p : Fin 24) : Memref sig .tc .vmem S128x4096 .bf16 := if p.val < 8 then chunkM p else slotM (prev p)

theorem am_inb (i : Fin 4) : ∀ a, (![i.val, 0, 0] : Fin 3 → ℕ) a + S1x8x128.size a ≤ S4x8x128.size a := by
  revert i; decide

def amR (i : Fin 4) : Rect S4x8x128 := Rect.unit (s := S4x8x128) ![i.val, 0, 0] S1x8x128.size (am_inb i)
/-- Slot `i` of the buffer of maxima. -/
def amM (i : Fin 4) : Memref sig .tc .vmem S8x128 .f32 :=
  (aM.slice (amR i) (fun _ => rfl)).squeeze S8x128 squeezes_S1x8x128_S8x128

/-! ## Where the parts lie -/

/-- A squeezed row-and-column index is the index with a leading zero. -/
theorem slot_unsqueeze (x : S128x4096.Idx) :
    Shape.reshapeEquiv squeezes_S1x128x4096_S128x4096.numel_eq x = (fun a => ⟨![0, (x 0).val, (x 1).val] a, by
      fin_cases a
      · exact Nat.one_pos
      · exact (x 0).isLt
      · exact (x 1).isLt⟩ : S1x128x4096.Idx) := by
  refine Shape.reshapeEquiv_eq_of_rowMajor _ ?_
  rw [Shape.rowMajor_val_three, Shape.rowMajor_val_two]
  simp

/-- Element `(r, k)` of slot `p` is element `(p / 2, r, k)` of its buffer. -/
theorem slotR_emb (p : Fin 24) (x : S128x4096.Idx) (a : Fin 3) :
    (((slotR p).emb (Shape.reshapeEquiv squeezes_S1x128x4096_S128x4096.numel_eq x)) a).val = ![p.val / 2, (x 0).val, (x 1).val] a := by
  rw [slot_unsqueeze]
  show (![p.val / 2, 0, 0] : Fin 3 → ℕ) a + 1 * (![0, (x 0).val, (x 1).val] : Fin 3 → ℕ) a = _
  fin_cases a <;> simp

theorem mem_slotR (p : Fin 24) (i : S12x128x4096.Idx) : i ∈ (slotR p).set ↔ (i 0).val = p.val / 2 := by
  unfold slotR
  rw [Rect.mem_set_unit]
  constructor
  · intro h; have := h 0; simp at this; omega
  · intro h a
    have h1 : (i 1).val < 128 := (i 1).isLt
    have h2 : (i 2).val < 4096 := (i 2).isLt
    fin_cases a <;> simp <;> omega

theorem mem_amR (q : Fin 4) (i : S4x8x128.Idx) : i ∈ (amR q).set ↔ (i 0).val = q.val := by
  unfold amR
  rw [Rect.mem_set_unit]
  constructor
  · intro h; have := h 0; simp at this; omega
  · intro h a
    have h1 : (i 1).val < 8 := (i 1).isLt
    have h2 : (i 2).val < 128 := (i 2).isLt
    fin_cases a <;> simp <;> omega

end Cert.RingGemm

end
-- ==== Proof.Tiles.lean ====
/-
What the buffers hold and what the kernel computes from them, in terms of the blocks `X c` of the activations and
`Wh c` of the weights, over any floats.
-/
module

public import proofs.«01_k».proof.Proof.Cells

@[expose] public section

noncomputable section

namespace Cert.RingGemm

open Cert.KernelIdeal Cert.KernelIdeal.Gen
open Idealize.ShloMosaic

variable {F : FTy → Type} [FloatOps F]

/-! ## Which rows a copy carries -/

/-- The device whose rows slot `j` of the receive buffer `b` ends up with on device `c`. -/
def origin (b : Bool) (j : ℕ) (c : Dev nD) : Dev nD := if b then up (1 + j / 4) c else up (3 - j / 4) c
/-- The first of those rows in that device's block. -/
def row0 (b : Bool) (j : ℕ) : ℕ := (if b then 512 else 0) + 128 * (j % 4)

theorem row0_le (b : Bool) (j : ℕ) : row0 b j ≤ 896 := by
  unfold row0; split <;> omega

/-- Copy `p`'s rows of the result, as a block of 128 rows. -/
def blk (c : Dev nD) (p : Fin 24) : ℕ := 8 * (origin (way p) (p.val / 2) c).val + row0 (way p) (p.val / 2) / 128

theorem blk_lt (c : Dev nD) (p : Fin 24) : blk c p < 32 := by revert c p; decide
theorem blk_not_own (c : Dev nD) (p : Fin 24) : blk c p / 8 ≠ c.val := by revert c p; decide
theorem blk_inj (c : Dev nD) (p q : Fin 24) (h : blk c p = blk c q) : p = q := by revert c p q; decide +kernel
theorem blk_cover (c : Dev nD) (k : Fin 32) : k.val / 8 = c.val ∨ ∃ p, blk c p = k.val := by revert c k; decide +kernel

set_option backward.proofsInPublic true in
/-- The copy that brings block `k`. -/
def copyOf (c : Dev nD) (k : ℕ) : Fin 24 := ⟨(2 * (4 * ((if k / 4 % 2 = 1 then k / 8 + 3 - c.val else c.val + 3 - k / 8) % 4) + k % 4) + k / 4 % 2) % 24, Nat.mod_lt _ (by decide)⟩

theorem copyOf_blk (c : Dev nD) (p : Fin 24) : copyOf c (blk c p) = p := by revert c p; decide +kernel

/-! ## The contents -/

section Vals

variable (X : Dev nD → Vec F S1024x4096 .bf16) (Wh : Dev nD → Vec F S4096x512 .f32)

set_option backward.proofsInPublic true in
/-- What receive buffer `b` holds once every copy has landed: slot `j`, row `r` is row `row0 b j + r` of its origin. -/
def recvd (b : Bool) (c : Dev nD) : Vec F S12x128x4096 .bf16 := fun i =>
  X (origin b (i 0).val c) (Shape.pair (d := ![1024, 4096]) ⟨row0 b (i 0).val + (i 1).val, by
    have h : (i 1).val < 128 := (i 1).isLt
    have := row0_le b (i 0).val
    show _ < 1024
    omega⟩ (i 2))

/-- Slot `p / 2` as a load reads it. -/
def slabV (c : Dev nD) (p : Fin 24) : Vec F S1x128x4096 .bf16 := fun i => recvd X (way p) c ((slotR p).emb i)

/-- The weights as the products read them. -/
def weightV (c : Dev nD) : Vec F S4096x512 .bf16 := k0_pay2 (Wh c)
/-- The product of the device's own rows. -/
def ownV (c : Dev nD) : FVec F S1024x512 .f32 := k0_pay3 (X c) (weightV Wh c)
/-- The product of copy `p`'s rows. -/
def tileV (c : Dev nD) (p : Fin 24) : FVec F S128x512 .f32 := k0_pay7 (slabV X c p) (weightV Wh c)

/-- The largest element of a block of 128 rows. -/
def tileMax (T : FVec F S128x512 .f32) : F .f32 :=
  extractAt ![0, 0, 0] (shapeCast S1x1x1 (multiReduction .maximumf [1, 2] S1 (shapeCast S1x128x512 T shapeCasts_S128x512_S1x128x512)
    0xFF800000#32 reduces_S1x128x512_S1 (.inl rfl) rfl) shapeCasts_S1_S1x1x1) inpos_S1x1x1_p0_0_0

/-- The running maximum after `n` received blocks. -/
def runMax (c : Dev nD) : ℕ → F .f32
  | 0 => k0_pay4 (ownV X Wh c)
  | n + 1 => Scalar.maximumf (runMax c n) (tileMax (tileV X Wh c (Fin.ofNat 24 n)))

/-- The device's own maximum. -/
def maxV (c : Dev nD) : F .f32 := runMax X Wh c 24

/-- What the buffer of maxima holds at the end: slot `i` the maximum of the device `i + 1` places back, slot 3 its own. -/
def maxesV (c : Dev nD) : Vec F S4x8x128 .f32 := fun i => maxV X Wh (up (3 - (i 0).val) c)

/-- One of those maxima as a load of one element reads it. -/
def maxAt (c : Dev nD) (k : ℕ) : Vec F S1x1x1 .f32 := fun _ => maxV X Wh (up k c)

set_option backward.proofsInPublic true in
/-- The rectified product: own rows from `ownV`, every other block of 128 rows from the copy that brings it. -/
def prodV (c : Dev nD) : Vec F S4096x512 .f32 := fun i =>
  if (i 0).val / 1024 = c.val then
    ownV X Wh c (Shape.pair (d := ![1024, 512]) ⟨(i 0).val % 1024, Nat.mod_lt _ (by decide)⟩ (i 1))
  else tileV X Wh c (copyOf c ((i 0).val / 128)) (Shape.pair (d := ![128, 512]) ⟨(i 0).val % 128, Nat.mod_lt _ (by decide)⟩ (i 1))

/-- The maxima of own, first and second slot combined. -/
def max3 (c : Dev nD) : F .f32 := k0_pay54 (maxV X Wh c) (maxAt X Wh c 3) (maxAt X Wh c 2)
/-- The kernel's result on device `c`. -/
def outV (c : Dev nD) : Vec F S4096x512 .f32 :=
  k0_pay1 (k0_pay56 (max3 X Wh c) (maxAt X Wh c 1)) (k0_pay57 (max3 X Wh c) (maxAt X Wh c 1) (prodV X Wh c))

theorem prodV_own (c : Dev nD) (i : S4096x512.Idx) (x : S1024x512.Idx) (h0 : (i 0).val = 1024 * c.val + (x 0).val) (h1 : (i 1).val = (x 1).val) :
    prodV X Wh c i = ownV X Wh c x := by
  have hx : (x 0).val < 1024 := (x 0).isLt
  unfold prodV
  rw [if_pos (by omega)]
  congr 1
  rw [← Shape.pair_eta x]
  congr 1
  · exact Fin.ext (by show (i 0).val % 1024 = (x 0).val; omega)
  · exact Fin.ext h1

theorem prodV_tile (c : Dev nD) (p : Fin 24) (i : S4096x512.Idx) (x : S128x512.Idx) (h0 : (i 0).val = 128 * blk c p + (x 0).val) (h1 : (i 1).val = (x 1).val) :
    prodV X Wh c i = tileV X Wh c p x := by
  have hx : (x 0).val < 128 := (x 0).isLt
  have hn := blk_not_own c p
  have hb : (i 0).val / 128 = blk c p := by omega
  unfold prodV
  rw [if_neg (by omega), hb, copyOf_blk]
  congr 1
  rw [← Shape.pair_eta x]
  congr 1
  · exact Fin.ext (by show (i 0).val % 128 = (x 0).val; omega)
  · exact Fin.ext h1

/-! ## A forwarded row is the row it forwards -/

theorem origin_first (c : Dev nD) (p : Fin 24) (h : p.val < 8) : origin (way p) (p.val / 2) (peer p c) = c := by revert c p; decide
theorem origin_next (c : Dev nD) (p : Fin 24) (h : ¬ p.val < 8) : origin (way p) (p.val / 2) (peer p c) = origin (way (prev p)) ((prev p).val / 2) c := by
  revert c p; decide
theorem way_prev (p : Fin 24) (h : ¬ p.val < 8) : way (prev p) = way p := by revert p; decide
theorem peer_prev (p : Fin 24) (h : ¬ p.val < 8) (c : Dev nD) : peer (prev p) c = peer p c := by unfold peer; rw [way_prev p h]
theorem row0_next (p : Fin 24) (h : ¬ p.val < 8) : row0 (way p) (p.val / 2) = row0 (way (prev p)) ((prev p).val / 2) := by revert p; decide
theorem row0_first (p : Fin 24) (h : p.val < 8) : row0 (way p) (p.val / 2) = 512 * (p.val % 2) + 128 * (p.val / 2 % 4) := by revert p; decide

end Vals

end Cert.RingGemm

end
-- ==== Proof.Sched.lean ====
/-
The protocol: what each semaphore's units hand over, what each device owes at launch, and why no wait closes a cycle.

A device entering the kernel hands both neighbours, by the two barrier signals, the parts of its buffers they will
write: the next device's signal brings the clockwise slots and two slots of maxima, the previous device's the
counter-clockwise slots and one slot of maxima. One of those slots of maxima is meant for the device two places
away and travels on with copy 1. A copy's landing hands its slot over at known contents, its leaving hands back the
share of its source.
-/
module

public import proofs.«01_k».proof.Proof.Tiles
public import Idealize.ShloMosaic.Lib.Ring

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-- The activations' block of device `c`, as staged. -/
def xV (c : Dev nD) : Vec F S1024x4096 .bf16 := (win0_0.blk (0 : Fin 1)).view.read (Elt F) (m ((c : Thread nD τ).loc main_arg0))
/-- The weights' block of device `c`. -/
def hV (c : Dev nD) : Vec F S4096x512 .f32 := m ((c : Thread nD τ).loc main_arg1)

/-! ## The parts of the buffers as assertions -/

/-- What receive buffer `b` of device `c` ends up holding. -/
def recvB (b : Bool) (c : Dev nD) : (bM b).view.ty.Contents (Elt F) :=
  match b with
  | false => recvd (xV m) false c
  | true => recvd (xV m) true c

/-- The same contents at a slot's, a chunk's, a maximum's place. -/
def slotC (c : Dev nD) (p : Fin 24) : Buf (Elt F) ((slotM p).view.loc (c : Thread nD τ)) := recvB m (way p) c
def chunkC (c : Dev nD) (p : Fin 24) : Buf (Elt F) ((chunkM p).view.loc (c : Thread nD τ)) := xV m c
def amC (c : Dev nD) (i : Fin 4) : Buf (Elt F) ((amM i).view.loc (c : Thread nD τ)) := maxesV (xV m) (hV m) c
def outC (c : Dev nD) : Buf (Elt F) (oM.view.loc (c : Thread nD τ)) := hV m c
def arrC (c : Dev nD) : Buf (Elt F) (hM.view.loc (c : Thread nD τ)) := hV m c

/-- Slot `p / 2` of device `c`'s buffer of copy `p`'s way, landed. -/
def slotPts (c : Dev nD) (p : Fin 24) (q : PosShare TreeShare) : sProp 𝕄 :=
  (slotM p).view.loc (c : Thread nD τ) ↦[(slotM p).view.set]{q} slotC m c p
/-- The same slot at whatever it holds. -/
def slotEx (c : Dev nD) (p : Fin 24) : sProp 𝕄 :=
  iprop(∃ f : Buf (Elt F) ((slotM p).view.loc (c : Thread nD τ)), (slotM p).view.loc (c : Thread nD τ) ↦[(slotM p).view.set]{fullShare} f)
/-- The rows copy `p < 8` reads, at the lent share. -/
def chunkPts (c : Dev nD) (p : Fin 24) : sProp 𝕄 :=
  (chunkM p).view.loc (c : Thread nD τ) ↦[(chunkM p).view.set]{fullShare.left} chunkC m c p
/-- What copy `p` reads, at the lent share. -/
def srcPts (c : Dev nD) (p : Fin 24) : sProp 𝕄 := if p.val < 8 then chunkPts m c p else slotPts m c (prev p) fullShare.left

/-- Slot `i` of device `c`'s maxima, as it ends up. -/
def amPts (c : Dev nD) (i : Fin 4) (q : PosShare TreeShare) : sProp 𝕄 :=
  (amM i).view.loc (c : Thread nD τ) ↦[(amM i).view.set]{q} amC m c i
/-- The same slot at whatever it holds. -/
def amEx (c : Dev nD) (i : Fin 4) : sProp 𝕄 :=
  iprop(∃ f : Buf (Elt F) ((amM i).view.loc (c : Thread nD τ)), (amM i).view.loc (c : Thread nD τ) ↦[(amM i).view.set]{fullShare} f)

/-- The three shares of its own maximum a device lends to its three transfers of it. -/
def amShare (i : Fin 3) : PosShare TreeShare :=
  if i.val = 0 then fullShare.left else if i.val = 1 then fullShare.right.left else fullShare.right.right

/-- The slot of maxima that travels with copy 1. -/
def extra (c : Dev nD) (p : Fin 24) : sProp 𝕄 := if p.val = 1 then amEx (up 2 c) 1 else iprop(emp)

/-- The weights before the body narrows them: in the output's staging buffer, and the array they come from. -/
def wArrived (c : Dev nD) : sProp 𝕄 :=
  iprop((oM.view.loc (c : Thread nD τ) ↦[oM.view.set]{fullShare} outC m c) ∗ (hM.view.loc (c : Thread nD τ) ↦[hM.view.set]{fullShare} arrC m c))

/-! ## The schedule -/

/-- Units of a copy, of a maximum, of the weights. -/
def Nc : ℕ := (slotM 0).view.dmaCredit
def Na : ℕ := (amM 0).view.dmaCredit
def Nw : ℕ := oM.view.dmaCredit
theorem Nc_pos : 0 < Nc := View.dmaCredit_pos _ (by decide)
theorem Na_pos : 0 < Na := View.dmaCredit_pos _ (by decide)
theorem Nw_pos : 0 < Nw := View.dmaCredit_pos _ (by decide)

/-- The units one payment of a role makes. -/
def units : Role → ℕ
  | .bar => 1
  | .wsm => Nw
  | .snd _ => Nc
  | .rcv _ => Nc
  | .asn _ => Na
  | .arc _ => Na

theorem units_pos (k : Role) : 0 < units k := by
  cases k
  · exact Nat.one_pos
  · exact Nw_pos
  · exact Nc_pos
  · exact Nc_pos
  · exact Na_pos
  · exact Na_pos

/-- What a payment of role `k` on device `c` hands over. The barrier's is `true` from the previous device, `false`
    from the next. -/
def pay (c : Dev nD) (d : Bool) : Role → sProp 𝕄
  | .bar => iprop((bigSep (Finset.univ.filter fun p => way p = d) fun p => slotEx (peer p c) p)
      ∗ (if d then amEx (up 3 c) 2 else iprop(amEx (up 1 c) 0 ∗ amEx (up 1 c) 1)))
  | .wsm => wArrived m c
  | .snd p => srcPts m c p
  | .rcv p => iprop(slotPts m c p fullShare ∗ extra c p)
  | .asn i => amPts m c 3 (amShare i)
  | .arc i => amPts m c i.castSucc fullShare

instance (c : Dev nD) (p : Fin 24) (q) : BI.Storable (upEmb : UEmb _ 𝕄) (slotPts (F := F) m c p q) := by unfold slotPts; infer_instance
instance (c : Dev nD) (p : Fin 24) : BI.Storable (upEmb : UEmb _ 𝕄) (slotEx (F := F) c p) := by unfold slotEx; infer_instance
instance (c : Dev nD) (p : Fin 24) : BI.Storable (upEmb : UEmb _ 𝕄) (srcPts (F := F) m c p) := by
  unfold srcPts chunkPts; split <;> infer_instance
instance (c : Dev nD) (i : Fin 4) (q) : BI.Storable (upEmb : UEmb _ 𝕄) (amPts (F := F) m c i q) := by unfold amPts; infer_instance
instance (c : Dev nD) (i : Fin 4) : BI.Storable (upEmb : UEmb _ 𝕄) (amEx (F := F) c i) := by unfold amEx; infer_instance
instance (c : Dev nD) (p : Fin 24) : BI.Storable (upEmb : UEmb _ 𝕄) (extra (F := F) c p) := by unfold extra; split <;> infer_instance
instance (c : Dev nD) (d : Bool) (k : Role) : BI.Storable (upEmb : UEmb _ 𝕄) (pay (F := F) m c d k) := by
  cases k <;> unfold pay
  · cases d <;> simp only [if_true, if_false, Bool.false_eq_true] <;> infer_instance
  · unfold wArrived; infer_instance
  all_goals infer_instance

/-- One round on every cell: two duties on a barrier's, one on every other. -/
def Rd : Rounds.Schedule (GSem nD τ sig) Bool 𝕄 where
  duties g r := if r = 0 ∧ g.1.2 = .tc then
    (match roleOf g.2 with | some .bar => Finset.univ | some _ => {false} | none => ∅) else ∅
  unitless _ := False
  amount g _ _ := match roleOf g.2 with | some k => units k | none => 1
  payload g _ d := match roleOf g.2 with | some k => pay m g.1.1 d k | none => iprop(emp)
  amount_pos g _ _ _ := by split; exacts [units_pos _, Nat.one_pos]

instance payload_storable (g : GSem nD τ sig) (r : ℕ) (d : Bool) : BI.Storable (upEmb : UEmb _ 𝕄) ((Rd (F := F) m).payload g r d) := by
  dsimp only [Rd]; split <;> infer_instance

section Sched
variable (c : Dev nD) (k : Role)

theorem duties_bar : (Rd (F := F) m).duties (kcell (c, .bar)) 0 = Finset.univ := by
  dsimp only [Rd]; rw [if_pos ⟨rfl, rfl⟩, roleOf_csem]
theorem duties_one (hk : k ≠ .bar) : (Rd (F := F) m).duties (kcell (c, k)) 0 = {false} := by
  dsimp only [Rd]; rw [if_pos ⟨rfl, rfl⟩, roleOf_csem]
  cases k <;> first | rfl | exact absurd rfl hk
theorem duties_later (g : GSem nD τ sig) : ∀ r, 1 ≤ r → (Rd (F := F) m).duties g r = ∅ :=
  fun r hr => by dsimp only [Rd]; rw [if_neg fun h => by omega]
theorem amount_eq (r : ℕ) (d : Bool) : (Rd (F := F) m).amount (kcell (c, k)) r d = units k := by
  dsimp only [Rd]; rw [roleOf_csem]
theorem payload_eq (r : ℕ) (d : Bool) : (Rd (F := F) m).payload (kcell (c, k)) r d = pay m c d k := by
  dsimp only [Rd]; rw [roleOf_csem]
theorem expect_bar : (Rd (F := F) m).expect (kcell (c, .bar)) 0 = 2 := by
  unfold Schedule.expect Schedule.amountOf
  rw [duties_bar, Finset.sum_congr rfl fun d _ => amount_eq m c .bar 0 d, Finset.sum_const, Finset.card_univ, Fintype.card_bool]; rfl
theorem expect_one (hk : k ≠ .bar) : (Rd (F := F) m).expect (kcell (c, k)) 0 = units k := by
  unfold Schedule.expect Schedule.amountOf; rw [duties_one m c k hk, Finset.sum_singleton, amount_eq]
theorem rest_bar : bigSep ((Rd (F := F) m).duties (kcell (c, .bar)) 0 \ ∅) (fun d => (Rd (F := F) m).payload (kcell (c, .bar)) 0 d)
    = iprop(pay m c false .bar ∗ pay m c true .bar) := by
  rw [Finset.sdiff_empty, duties_bar, bigSep_univ_eq_bigSepL [false, true] (by decide) (by decide), bigSepL_cons_cons, bigSepL_singleton,
    payload_eq, payload_eq]
  rfl
theorem rest_one (hk : k ≠ .bar) : bigSep ((Rd (F := F) m).duties (kcell (c, k)) 0 \ ∅) (fun d => (Rd (F := F) m).payload (kcell (c, k)) 0 d)
    = pay m c false k := by
  rw [Finset.sdiff_empty, duties_one m c k hk, bigSep_singleton, payload_eq]
end Sched

/-! ## What each device owes -/

/-- Device `c`'s payments to other devices in program order: the two barrier signals, the 24 copies, the three maxima. -/
def payee (c : Dev nD) (t : ℕ) : Dev nD × Role :=
  if t = 0 then (up 3 c, .bar) else if t = 1 then (up 1 c, .bar)
  else if t < 26 then (peer (Fin.ofNat 24 (t - 2)) c, .rcv (Fin.ofNat 24 (t - 2)))
  else (up (1 + (t - 26)) c, .arc (Fin.ofNat 3 (t - 26)))

/-- What is still owed before payment `s`. -/
def O (c : Dev nD) (s : ℕ) : CellTallies nD τ sig Unit :=
  ∑ t ∈ Finset.Ico s 29, tallyAt (kcell (payee c t)) () (units (payee c t).2)

theorem O_step (c : Dev nD) (s : ℕ) (h : s < 29) : O c s = O c (s + 1) + tallyAt (kcell (payee c s)) () (units (payee c s).2) := by
  unfold O
  rw [Ring.sum_Ico_succ h, add_comm]

theorem O_end (c : Dev nD) : O c 29 = 0 := by unfold O; rw [Finset.Ico_self, Finset.sum_empty]

theorem O_pos {c : Dev nD} {s : ℕ} {g : GSem nD τ sig} {u : Unit} (h : 0 < O c s g u) : ∃ t, s ≤ t ∧ t < 29 ∧ g = kcell (payee c t) := by
  unfold O at h
  rw [Finset.sum_apply, Finsupp.finset_sum_apply] at h
  by_contra hn
  refine absurd h (Nat.not_lt.2 (Nat.le_of_eq (Finset.sum_eq_zero fun t ht => ?_)))
  rw [tallyAt_apply, if_neg]
  rintro ⟨e, -⟩
  exact hn ⟨t, (Finset.mem_Ico.mp ht).1, (Finset.mem_Ico.mp ht).2, e⟩

theorem payee_send (c : Dev nD) (p : Fin 24) : payee c (2 + p.val) = (peer p c, .rcv p) := by
  have hp := p.isLt
  unfold payee
  rw [if_neg (by omega), if_neg (by omega), if_pos (by omega)]
  have : Fin.ofNat 24 (2 + p.val - 2) = p := Fin.ext (by show (2 + p.val - 2) % 24 = p.val; omega)
  rw [this]
theorem payee_max (c : Dev nD) (i : Fin 3) : payee c (26 + i.val) = (up (1 + i.val) c, .arc i) := by
  revert c i; decide

/-! ## The levels -/

/-- Barriers first, then the copies in program order, then the maxima; what nobody else pays is lowest. -/
def rank : Role → ℕ
  | .bar => 1
  | .rcv p => 2 + p.val
  | .arc _ => 100
  | _ => 0

def L (g : GSem nD τ sig) : Finset Unit := if g.1.2 = .tc then {()} else ∅
def lv (g : GSem nD τ sig) (_ : Unit) : ℕ := match roleOf g.2 with | some k => rank k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × Role) (u : Unit) : lv (kcell ck) u = rank ck.2 := by unfold lv; rw [roleOf_csem]

theorem rank_payee (c : Dev nD) (t : ℕ) : (t = 0 ∨ t = 1) ∧ rank (payee c t).2 = 1 ∨ 2 ≤ t ∧ (t < 29 → t ≤ rank (payee c t).2) := by
  by_cases h0 : t = 0
  · subst h0; exact .inl ⟨.inl rfl, rfl⟩
  by_cases h1 : t = 1
  · subst h1; exact .inl ⟨.inr rfl, rfl⟩
  refine .inr ⟨by omega, fun ht => ?_⟩
  unfold payee
  rw [if_neg h0, if_neg h1]
  split
  · show t ≤ 2 + (t - 2) % 24; omega
  · show t ≤ 100; omega

/-- A device may wait on a cell ranked below everything it still owes. -/
theorem mayWait_below (c : Dev nD) (sm : SemLoc sig) (s r : ℕ) (hr : lv ((c : Thread nD τ), sm) () = r)
    (h : ∀ t, s ≤ t → t < 29 → r < rank (payee c t).2) :
    (levAts L lv : sProp 𝕄) ⊢ MayWait (c : Thread nD τ) sm () (O c s) :=
  MayOwe.of_cut (L := L) (lev := lv) r (fun p hp => by rw [Finset.mem_singleton.mp hp, L_tc]; exact Finset.mem_singleton_self _)
    (fun g u hg => by obtain ⟨t, -, -, rfl⟩ := O_pos hg; exact Finset.mem_singleton_self _)
    (fun p hp => by rw [Finset.mem_singleton.mp hp, hr])
    (fun g u hg => by obtain ⟨t, h1, h2, rfl⟩ := O_pos hg; rw [lv_kcell]; exact h t h1 h2)

theorem mayWait_bar (c : Dev nD) : (levAts L lv : sProp 𝕄) ⊢ MayWait (c : Thread nD τ) (csem .bar) () (O c 2) :=
  mayWait_below c _ 2 1 (lv_kcell (c, .bar) ()) fun t h1 h2 => by rcases rank_payee c t with h | h <;> have := h.2 <;> omega
theorem mayWait_low (c : Dev nD) (sm : SemLoc sig) (h : lv ((c : Thread nD τ), sm) () = 0) (s : ℕ) :
    (levAts L lv : sProp 𝕄) ⊢ MayWait (c : Thread nD τ) sm () (O c s) :=
  mayWait_below c sm s 0 h fun t h1 h2 => by rcases rank_payee c t with h | h <;> have := h.2 <;> omega
theorem mayWait_rcv (c : Dev nD) (p : Fin 24) (s : ℕ) (hs : 3 + p.val ≤ s) :
    (levAts L lv : sProp 𝕄) ⊢ MayWait (c : Thread nD τ) (csem (.rcv p)) () (O c s) :=
  mayWait_below c _ s (2 + p.val) (lv_kcell (c, .rcv p) ()) fun t h1 h2 => by rcases rank_payee c t with h | h <;> have := h.2 <;> omega
theorem mayWait_end (c : Dev nD) (sm : SemLoc sig) : (levAts L lv : sProp 𝕄) ⊢ MayWait (c : Thread nD τ) sm () (O c 29) := by
  rw [O_end, MayWait_zero]; iintro -; iempintro

end Cert.RingGemm

end
-- ==== Proof.Landing.lean ====
/-
What a copy leaves behind is what the protocol says its slot holds: the rows read at its source are the rows written
at its target.
-/
module

public import proofs.«01_k».proof.Proof.Sched

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- Writing back what a view reads of `g` leaves `g` on the view's elements. -/
theorem write_read_on {κ : Kind} {sp : Space} {s : Shape} {e : EltTy} (v : View sig κ sp s e) (f g : v.ty.Contents (Elt F)) {i} (hi : i ∈ v.set) :
    v.write (Elt F) f (v.read (Elt F) g) Finset.univ i = g i := by
  obtain ⟨x, -, rfl⟩ := Finset.mem_map.mp hi
  rw [View.write_emb_of_mem (h := Finset.mem_univ x), View.read_apply]
  simp

theorem read_slot_of (b : Bool) (p : Fin 24) (c : Dev nD) (x : S128x4096.Idx) :
    (((bM b).slice (slotR p) (fun _ => rfl)).squeeze S128x4096 squeezes_S1x128x4096_S128x4096).view.read (Elt F) (recvB m b c) x
      = recvd (xV m) b c ((slotR p).emb (Shape.reshapeEquiv squeezes_S1x128x4096_S128x4096.numel_eq x)) := by
  cases b <;> rfl
theorem read_slot (p : Fin 24) (c : Dev nD) (x : S128x4096.Idx) :
    (slotM p).view.read (Elt F) (slotC m c p) x = recvd (xV m) (way p) c ((slotR p).emb (Shape.reshapeEquiv squeezes_S1x128x4096_S128x4096.numel_eq x)) :=
  read_slot_of m (way p) p c x

theorem recvd_slot (X : Dev nD → Vec F S1024x4096 .bf16) (p : Fin 24) (c : Dev nD) (x : S128x4096.Idx) :
    recvd X (way p) c ((slotR p).emb (Shape.reshapeEquiv squeezes_S1x128x4096_S128x4096.numel_eq x))
      = X (origin (way p) (p.val / 2) c) (Shape.pair (d := ![1024, 4096]) ⟨row0 (way p) (p.val / 2) + (x 0).val, by
          have h : (x 0).val < 128 := (x 0).isLt
          have := row0_le (way p) (p.val / 2)
          show _ < 1024
          omega⟩ (x 1)) := by
  have h0 := slotR_emb p x 0
  have h1 := slotR_emb p x 1
  have h2 := slotR_emb p x 2
  simp at h0 h1 h2
  unfold recvd
  congr 1
  · rw [h0]
  · congr 1
    · exact Fin.ext (by show row0 _ _ + _ = row0 _ _ + _; rw [h0, h1])
    · exact Fin.ext h2

theorem read_first (p : Fin 24) (c : Dev nD) (h : p.val < 8) :
    (chunkM p).view.read (Elt F) (chunkC m c p) = (slotM p).view.read (Elt F) (slotC m (peer p c) p) := by
  funext x
  rw [read_slot, recvd_slot, origin_first c p h]
  have hx : (chunkM p).view.read (Elt F) (chunkC m c p) x = xV m c ((Rect.unit (s := S1024x4096) ![512 * (p.val % 2) + 128 * (p.val / 2 % 4), 0] S128x4096.size (chunk_inb p)).emb x) := rfl
  rw [hx, ← Shape.pair_eta ((Rect.unit (s := S1024x4096) ![512 * (p.val % 2) + 128 * (p.val / 2 % 4), 0] S128x4096.size (chunk_inb p)).emb x)]
  congr 2
  · exact Fin.ext (by show 512 * (p.val % 2) + 128 * (p.val / 2 % 4) + 1 * (x 0).val = row0 _ _ + (x 0).val; rw [row0_first p h]; omega)
  · exact Fin.ext (by show 0 + 1 * (x 1).val = (x 1).val; omega)

theorem read_next (p : Fin 24) (c : Dev nD) (h : ¬ p.val < 8) :
    (slotM (prev p)).view.read (Elt F) (slotC m c (prev p)) = (slotM p).view.read (Elt F) (slotC m (peer p c) p) := by
  funext x
  rw [read_slot, read_slot, recvd_slot, recvd_slot, origin_next c p h]
  congr 2
  exact Fin.ext (by show row0 _ _ + _ = row0 _ _ + _; rw [row0_next p h])

/-- The landed slot, whatever was there before. -/
theorem land (p : Fin 24) (c : Dev nD) (fd : Buf (Elt F) ((slotM p).view.loc (peer p c : Thread nD τ))) (w : Vec F S128x4096 .bf16)
    (hw : w = (slotM p).view.read (Elt F) (slotC m (peer p c) p)) :
    ((slotM p).view.loc (peer p c : Thread nD τ) ↦[(slotM p).view.set]{fullShare} (slotM p).view.write (Elt F) fd w Finset.univ : sProp 𝕄)
      = slotPts m (peer p c) p fullShare := by
  subst hw
  exact pointsTo_congr fun i hi => write_read_on (F := F) _ _ _ hi

/-! ## The maxima -/

theorem maxesV_slot (X : Dev nD → Vec F S1024x4096 .bf16) (Wh : Dev nD → Vec F S4096x512 .f32) (q : Fin 4) (c : Dev nD) (y : (amR q).shape.Idx) :
    maxesV X Wh c ((amR q).emb y) = maxV X Wh (up (3 - q.val) c) := by
  have hy : (y 0).val < 1 := (y 0).isLt
  have h : ((amR q).emb y 0).val = q.val := by show q.val + 1 * (y 0).val = q.val; omega
  unfold maxesV
  rw [h]

theorem up_back (i : Fin 3) (c : Dev nD) : up (3 - (3 : Fin 4).val) c = up (3 - i.castSucc.val) (up (1 + i.val) c) := by revert c i; decide

/-- Slot 3 read on one device is what the slot `i` of the device `i + 1` places on holds. -/
theorem read_max (i : Fin 3) (c : Dev nD) :
    (amM 3).view.read (Elt F) (amC m c 3) = (amM i.castSucc).view.read (Elt F) (amC m (up (1 + i.val) c) i.castSucc) := by
  funext x
  have h3 : (amM 3).view.read (Elt F) (amC m c 3) x = maxesV (xV m) (hV m) c ((amR 3).emb (Shape.reshapeEquiv squeezes_S1x8x128_S8x128.numel_eq x)) := rfl
  have hi : (amM i.castSucc).view.read (Elt F) (amC m (up (1 + i.val) c) i.castSucc) x
      = maxesV (xV m) (hV m) (up (1 + i.val) c) ((amR i.castSucc).emb (Shape.reshapeEquiv squeezes_S1x8x128_S8x128.numel_eq x)) := rfl
  refine h3.trans ((maxesV_slot _ _ 3 c _).trans (Eq.trans ?_ ((maxesV_slot _ _ i.castSucc (up (1 + i.val) c) _).symm.trans hi.symm)))
  exact congrArg _ (up_back i c)

theorem landMax (i : Fin 3) (c : Dev nD) (fd : Buf (Elt F) ((amM i.castSucc).view.loc (up (1 + i.val) c : Thread nD τ))) :
    ((amM i.castSucc).view.loc (up (1 + i.val) c : Thread nD τ) ↦[(amM i.castSucc).view.set]{fullShare}
        (amM i.castSucc).view.write (Elt F) fd ((amM 3).view.read (Elt F) (amC m c 3)) Finset.univ : sProp 𝕄)
      = amPts m (up (1 + i.val) c) i.castSucc fullShare := by
  rw [read_max]
  exact pointsTo_congr fun j hj => write_read_on (F := F) _ _ _ hj

end Cert.RingGemm

end
-- ==== Proof.State.lean ====
/-
The state of a device between two operations, by how many copies it has sent (`s`), received (`r`) and seen leave
(`w`): four families over the 24 copies, each element in exactly one place.
-/
module

public import proofs.«01_k».proof.Proof.Landing

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over a decidable part of an index type -/

/-- `Φ` at every index with `P`. -/
def fam {I : Type} [Fintype I] [DecidableEq I] (P : I → Prop) [DecidablePred P] (Φ : I → sProp 𝕄) : sProp 𝕄 := bigSep (Finset.univ.filter P) Φ

section Fam
variable {I : Type} [Fintype I] [DecidableEq I] {P P' : I → Prop} [DecidablePred P] [DecidablePred P']

theorem fam_congr (h : ∀ x, P x ↔ P' x) (Φ : I → sProp 𝕄) : fam P Φ = fam P' Φ := by
  unfold fam; rw [Finset.filter_congr fun x _ => h x]
/-- One index set apart. -/
theorem fam_take (a : I) (h : ∀ x, P x ↔ x = a ∨ P' x) (hn : ¬ P' a) (Φ : I → sProp 𝕄) : fam P Φ = iprop(Φ a ∗ fam P' Φ) := by
  unfold fam
  rw [show Finset.univ.filter P = insert a (Finset.univ.filter P') from by ext x; simp [h x], bigSep_insert (by simp [hn])]; rfl
theorem fam_none (h : ∀ x, ¬ P x) (Φ : I → sProp 𝕄) : fam P Φ = iprop(emp) := by
  unfold fam
  rw [show Finset.univ.filter P = ∅ from by ext x; simp [h x], bigSep_empty]; rfl
theorem fam_all (h : ∀ x, P x) (Φ : I → sProp 𝕄) : fam P Φ = bigSep Finset.univ Φ := by
  unfold fam
  rw [show Finset.univ.filter P = Finset.univ from by ext x; simp [h x]]
end Fam

/-! ## What every device knows -/

/-- Every cell's invariant, and that its round 0 is reached. -/
def records (K : Dev nD × Role → ℕ) : sProp 𝕄 :=
  iprop((bigSep Finset.univ fun ck : Dev nD × Role => cellInv ER (Rd m) (K ck) (kcell ck))
    ∗ bigSep Finset.univ fun ck : Dev nD × Role => reached ER (kcell ck) 0)

instance records_persistent (K : Dev nD × Role → ℕ) : BI.Persistent (records m K) := by unfold records; infer_instance

theorem records_inv (K : Dev nD × Role → ℕ) (ck : Dev nD × Role) : records m K ⊢ cellInv ER (Rd m) (K ck) (kcell ck) := by
  have h : (bigSep Finset.univ fun ck : Dev nD × Role => (cellInv ER (Rd m) (K ck) (kcell ck) : sProp 𝕄)) ⊢ cellInv ER (Rd m) (K ck) (kcell ck) :=
    bigSep_elim (Finset.mem_univ ck)
  unfold records
  iintro ⟨H, -⟩
  iapply h; iexact H
theorem records_reached (K : Dev nD × Role → ℕ) (ck : Dev nD × Role) : records m K ⊢ reached ER (kcell ck) 0 := by
  have h : (bigSep Finset.univ fun ck : Dev nD × Role => (reached ER (kcell ck) 0 : sProp 𝕄)) ⊢ reached ER (kcell ck) 0 :=
    bigSep_elim (Finset.mem_univ ck)
  unfold records
  iintro ⟨-, H⟩
  iapply h; iexact H

/-- What a device knows, and what it still owes before its payment `t`. -/
def Core (K : Dev nD × Role → ℕ) (c : Dev nD) (t : ℕ) : sProp 𝕄 :=
  iprop(records m K ∗ levAts L lv ∗ ∃ W, owes (c : Thread nD τ) (O c t) W)

/-! ## The copies -/

section Parts
variable (c : Dev nD)

/-- Copy `p` before it is issued: its two duties, its target slot, its source's share. -/
def ToSend (p : Fin 24) : sProp 𝕄 :=
  iprop(atPos ER (kcell (c, .snd p)) 0 ∅ 0 ∗ dutyTok ER (kcell (c, .snd p)) 0 false ∗ dutyTok ER (kcell (peer p c, .rcv p)) 0 false
    ∗ slotEx (peer p c) p ∗ (if p.val < 8 then chunkPts m c p else iprop(emp)) ∗ extra (peer p c) p)
/-- Copy `p` on its way. -/
def InFlight (p : Fin 24) : sProp 𝕄 := iprop(atPos ER (kcell (c, .snd p)) 0 ∅ 0 ∗ cred (tallyAt (kcell (c, .snd p)) () (units (.snd p))))
/-- Copy `p` seen to have left. -/
def Back (p : Fin 24) : sProp 𝕄 := iprop(semVal (kcell (c, .snd p)) 0 ∗ srcPts m c p)
/-- The arriving copy `p` before it is waited for. -/
def ToRecv (p : Fin 24) : sProp 𝕄 := iprop(atPos ER (kcell (c, .rcv p)) 0 ∅ 0 ∗ cred (tallyAt (kcell (c, .rcv p)) () (units (.rcv p))))
/-- The arriving copy `p` after: the share of its slot kept to compute from. -/
def Got (p : Fin 24) : sProp 𝕄 := iprop(semVal (kcell (c, .rcv p)) 0 ∗ slotPts m c p fullShare.right ∗ extra c p)
/-- The share of its slot that forwarding it lends. -/
def Lent (p : Fin 24) : sProp 𝕄 := slotPts m c p fullShare.left

/-- In which order the leaving copies are waited for: the clockwise ones, then the others. -/
def uOf (p : Fin 24) : ℕ := p.val % 2 * 12 + p.val / 2

theorem uOf_inj {p q : Fin 24} (h : uOf p = uOf q) : p = q := by
  unfold uOf at h; exact Fin.ext (by omega)
end Parts

/-- The communication state after `s` copies sent, `r` received, `w` seen to have left, before payment `t`. -/
def St (K : Dev nD × Role → ℕ) (c : Dev nD) (t s r w : ℕ) : sProp 𝕄 :=
  iprop(Core m K c t
    ∗ fam (fun p : Fin 24 => s ≤ p.val) (ToSend m c)
    ∗ fam (fun p : Fin 24 => p.val < s ∧ w ≤ uOf p) (InFlight c)
    ∗ fam (fun p : Fin 24 => uOf p < w) (Back m c)
    ∗ fam (fun p : Fin 24 => r ≤ p.val) (ToRecv c)
    ∗ fam (fun p : Fin 24 => p.val < r) (Got m c)
    ∗ fam (fun p : Fin 24 => s ≤ p.val + 8 ∧ p.val < r) (Lent m c))

/-- The end of the communication: every copy sent, `w` of them seen to have left. -/
def Wd (K : Dev nD × Role → ℕ) (c : Dev nD) (t w : ℕ) : sProp 𝕄 :=
  iprop(Core m K c t
    ∗ fam (fun p : Fin 24 => p.val < 24 ∧ w ≤ uOf p) (InFlight c)
    ∗ fam (fun p : Fin 24 => uOf p < w) (Back m c))

/-! ## The maxima -/

section Max
variable (c : Dev nD)

/-- The `i`-th transfer of the device's own maximum before it is issued. -/
def MaxToSend (i : Fin 3) : sProp 𝕄 :=
  iprop(atPos ER (kcell (c, .asn i)) 0 ∅ 0 ∗ dutyTok ER (kcell (c, .asn i)) 0 false ∗ dutyTok ER (kcell (up (1 + i.val) c, .arc i)) 0 false
    ∗ amEx (up (1 + i.val) c) i.castSucc ∗ amPts m c 3 (amShare i))
def MaxInFlight (i : Fin 3) : sProp 𝕄 := iprop(atPos ER (kcell (c, .asn i)) 0 ∅ 0 ∗ cred (tallyAt (kcell (c, .asn i)) () (units (.asn i))))
def MaxBack (i : Fin 3) : sProp 𝕄 := iprop(semVal (kcell (c, .asn i)) 0 ∗ amPts m c 3 (amShare i))
def MaxToRecv (i : Fin 3) : sProp 𝕄 := iprop(atPos ER (kcell (c, .arc i)) 0 ∅ 0 ∗ cred (tallyAt (kcell (c, .arc i)) () (units (.arc i))))
def MaxGot (i : Fin 3) : sProp 𝕄 := iprop(semVal (kcell (c, .arc i)) 0 ∗ amPts m c i.castSucc fullShare)
end Max

/-- The maxima after `a` sent, `b` seen to have left, `d` received. -/
def Am (c : Dev nD) (a b d : ℕ) : sProp 𝕄 :=
  iprop(fam (fun i : Fin 3 => a ≤ i.val) (MaxToSend m c)
    ∗ fam (fun i : Fin 3 => i.val < a ∧ b ≤ i.val) (MaxInFlight c)
    ∗ fam (fun i : Fin 3 => i.val < b) (MaxBack m c)
    ∗ fam (fun i : Fin 3 => d ≤ i.val) (MaxToRecv c)
    ∗ fam (fun i : Fin 3 => i.val < d) (MaxGot m c))

/-! ## The result's buffer -/

set_option backward.proofsInPublic true in
/-- Row `i` is computed after `g` stores: own rows first, then the copies' in order. -/
def ready (c : Dev nD) (g : ℕ) (i : S4096x512.Idx) : Prop :=
  ((i 0).val / 1024 = c.val ∧ 1 ≤ g) ∨ ∃ p : Fin 24, (i 0).val / 128 = blk c p ∧ p.val + 2 ≤ g

/-- The result's staging buffer after `g` stores. -/
def Out (c : Dev nD) (g : ℕ) : sProp 𝕄 :=
  iprop(∃ f : Buf (Elt F) (oM.view.loc (c : Thread nD τ)),
    ⌜∀ i : S4096x512.Idx, ready c g i → f i = prodV (xV m) (hV m) c i⌝ ∗ (oM.view.loc (c : Thread nD τ) ↦[Finset.univ]{fullShare} f))

def wC (c : Dev nD) : Buf (Elt F) (wM.view.loc (c : Thread nD τ)) := weightV (hV m) c
def xC (c : Dev nD) : Buf (Elt F) (xM.view.loc (c : Thread nD τ)) := xV m c
def prodC (c : Dev nD) : Buf (Elt F) (oM.view.loc (c : Thread nD τ)) := prodV (xV m) (hV m) c
def resC (c : Dev nD) : Buf (Elt F) (oM.view.loc (c : Thread nD τ)) := outV (xV m) (hV m) c

/-- The narrowed weights. -/
def Wt (c : Dev nD) : sProp 𝕄 := wM.view.loc (c : Thread nD τ) ↦[Finset.univ]{fullShare} wC m c
/-- The activations' kept share. -/
def Xk (c : Dev nD) : sProp 𝕄 := xM.view.loc (c : Thread nD τ) ↦[Finset.univ]{fullShare.right} xC m c

end Cert.RingGemm

end
-- ==== Proof.Comm.lean ====
/-
One communication step each, at a symbolic copy and a symbolic device: issuing copy `p`, waiting for it to land,
waiting for it to have left; the same for the maxima.
-/
module

public import proofs.«01_k».proof.Proof.State

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Role → ℕ) (c : Dev nD)

section Ops
variable {α : Type} {k : PUnit → Prog (TpuEff nD τ sig (Elt F) Λ₀ .tc) α} {Q : α → sProp (MT nD τ sig Unit (Elt F) ℕ UU ℕ)} {R : sProp (MT nD τ sig Unit (Elt F) ℕ UU ℕ)}

/-- A wait on a cell of one duty: its payload, and its counter back at zero. -/
theorem wait_one (kk : Role) (hb : kk ≠ .bar) {sem : DmaSem sig} (hsem : SemLoc.dma sem = csem kk)
    {sp sp' : Space} {s s' : Shape} {e e' : EltTy} {src : Memref sig .tc sp' s' e'} {dst : Memref sig .tc sp s e} {h1 h2}
    (hcr : dst.view.dmaCredit = units kk) (t : ℕ)
    (hmay : (levAts L lv : sProp 𝕄) ⊢ MayWait (c : Thread nD τ) (csem kk) () (O c t)) :
    iprop(Core m K c t ∗ cred (tallyAt (kcell (c, kk)) () (units kk)) ∗ atPos ER (kcell (c, kk)) 0 ∅ 0)
      ⊢ iprop(((Core m K c t ∗ semVal (kcell (c, kk)) 0 ∗ pay m c false kk) -∗ wpc c (k ⟨⟩) Q)
          -∗ wpc c (.op (.waitDma2 sem src dst h1 h2) k) Q) := by
  unfold Core
  have hspec : ∀ P : PUnit → sProp 𝕄, wpE (defs₀ (F := F)) 𝒱₀ (c : Thread nD τ) none Set.univ (.waitDma2 sem src dst h1 h2) P
      = waitSpec (c : Thread nD τ) Set.univ (csem kk) (units kk) P := fun P => by
    rw [wpE_waitDma2_eq 𝒱₀ (c : Thread nD τ) none Set.univ P, hsem, hcr]
  iintro ⟨⟨#HR, #HL, ⟨%W, HO⟩⟩, Hcr, Hat⟩ Hk
  iapply (Rounds.wp_wait_rest_token 𝒱₀ ER (Rd m) (c : Thread nD τ) none (κ := K (c, kk)) (sm := csem kk) (k' := units kk)
      hspec (Set.mem_univ _) () (O := O c t) (W := W) (R := 0) (m := 0) (T := ∅)
      (by rw [Nat.zero_add]; exact (expect_one m c kk hb).symm)) $$ [Hcr HO Hat]
  · isplitr; · iapply (records_inv m K (c, kk)); iexact HR
    isplitl [Hcr]; · iexact Hcr
    isplitl [HO]; · iexact HO
    isplitr; · iapply hmay; iexact HL
    iexact Hat
  iintro ⟨HO, Hat, -, Hpay⟩
  ihave Hp := (Entails.of_eq (rest_one m c kk hb)) $$ Hpay
  imod (Rounds.cell_close ER (Rd m) (Set.mem_univ (K (c, kk))) (fun h => h) (R := 0 + 1) (duties_later m (kcell (c, kk)))) $$ [Hat] with Hz
  · isplitr; · iapply (records_inv m K (c, kk)); iexact HR
    iexact Hat
  iapply Hk
  isplitl [HO]
  · isplitr; · iexact HR
    isplitr; · iexact HL
    iexists _; iexact HO
  isplitl [Hz] <;> iassumption

theorem slot_credit (p : Fin 24) : (slotM p).view.dmaCredit = Nc := by revert p; decide
theorem slot_amount (p : Fin 24) : (slotM p).view.amount (csem (.rcv p)) = Nc := slot_credit p

/-- The transfer of copy `p` from a source that reads as the slot's final contents. -/
theorem send_one (p : Fin 24) {src : Memref sig .tc .vmem S128x4096 .bf16} {hsc h1 h2 h3} (q : PosShare TreeShare) (fs : Buf (Elt F) (src.view.loc (c : Thread nD τ)))
    (hsr : (src.view.loc (c : Thread nD τ) ↦[src.view.set]{q} fs : sProp 𝕄) ⊢ srcPts m c p)
    (hrd : src.view.read (Elt F) fs = (slotM p).view.read (Elt F) (slotC m (peer p c) p)) :
    iprop(Core m K c (2 + p.val) ∗ dutyTok ER (kcell (c, .snd p)) 0 false ∗ dutyTok ER (kcell (peer p c, .rcv p)) 0 false
        ∗ slotEx (peer p c) p ∗ extra (peer p c) p ∗ (src.view.loc (c : Thread nD τ) ↦[src.view.set]{q} fs))
      ⊢ iprop(((Core m K c (3 + p.val) ∗ cred (tallyAt (kcell (c, .snd p)) () (units (.snd p)))) -∗ wpc c (k ⟨⟩) Q)
        -∗ wpc c (.op (.enqueueDma src (.remote (Dev.tc (peer p c) : Thread nD τ) (slotM p) (csem (.snd p)) hsc) (csem (.rcv p)) h1 h2 h3) k) Q) := by
  have hp := p.isLt
  have hO : O c (2 + p.val) = O c (3 + p.val) + tallyAt ((peer p c : Thread nD τ), csem (.rcv p)) () Nc := by
    have := O_step c (2 + p.val) (by omega)
    rw [payee_send] at this
    rw [this, show 2 + p.val + 1 = 3 + p.val from by omega]; rfl
  have hd₁ : false ∈ (Rd (F := F) m).duties ((c : Thread nD τ), csem (.snd p)) 0 := by
    rw [show ((c : Thread nD τ), csem (.snd p)) = kcell (c, .snd p) from rfl, duties_one m c (.snd p) (by intro h; cases h)]; exact Finset.mem_singleton_self _
  have hd₂ : false ∈ (Rd (F := F) m).duties ((peer p c : Thread nD τ), csem (.rcv p)) 0 := by
    rw [show ((peer p c : Thread nD τ), csem (.rcv p)) = kcell (peer p c, .rcv p) from rfl, duties_one m (peer p c) (.rcv p) (by intro h; cases h)]
    exact Finset.mem_singleton_self _
  unfold Core slotEx
  iintro ⟨⟨#HR, #HL, ⟨%W, HO⟩⟩, Hts, Htr, ⟨%fd, Hd⟩, Hx, Hs⟩ Hk
  iapply (Rounds.wp_send_pointsTo_with 𝒱₀ ER (Rd m) (c : Thread nD τ) none (c' := (peer p c : Thread nD τ)) (src := src) (dst := slotM p)
    (sS := csem (.snd p)) (sem := csem (.rcv p)) (q := q) (fs := fs) (fd := fd) (κ₁ := K (c, .snd p)) (κ₂ := K (peer p c, .rcv p))
    (d₁ := false) (d₂ := false) (r₁ := 0) (r₂ := 0) (F := extra (peer p c) p) hd₁ hd₂
    () () Nc (slot_amount p) (amount_eq m c (.snd p) 0 false) (amount_eq m (peer p c) (.rcv p) 0 false) (O c (3 + p.val)) hO (W := W)
    (hsr.trans (Entails.of_eq (payload_eq m c (.snd p) 0 false).symm))
    ((sep_mono_left (Entails.of_eq (land m p c fd _ hrd))).trans (Entails.of_eq (payload_eq m (peer p c) (.rcv p) 0 false).symm)))
    $$ [HO Hts Htr Hd Hx Hs]
  · isplitr; · iapply (records_inv m K (c, .snd p)); iexact HR
    isplitr; · iapply (records_inv m K (peer p c, .rcv p)); iexact HR
    isplitl [Hs]; · iexact Hs
    isplitl [Hd Hx]
    · isplitl [Hd] <;> iassumption
    isplitl [HO]; · iexact HO
    isplitl [Hts]; · iexact Hts
    isplitr; · iapply (records_reached m K (c, .snd p)); iexact HR
    isplitl [Htr]; · iexact Htr
    iapply (records_reached m K (peer p c, .rcv p)); iexact HR
  iintro ⟨Hcr, HO⟩
  iapply Hk
  isplitl [HO]
  · isplitr; · iexact HR
    isplitr; · iexact HL
    iexists _; iexact HO
  iexact Hcr

/-- The same from the source copy `p` reads. -/
theorem send_src (p : Fin 24) {src : Memref sig .tc .vmem S128x4096 .bf16} {hsc h1 h2 h3} (hsrc : src = srcM p) :
    iprop(Core m K c (2 + p.val) ∗ dutyTok ER (kcell (c, .snd p)) 0 false ∗ dutyTok ER (kcell (peer p c, .rcv p)) 0 false
        ∗ slotEx (peer p c) p ∗ extra (peer p c) p ∗ srcPts m c p)
      ⊢ iprop(((Core m K c (3 + p.val) ∗ cred (tallyAt (kcell (c, .snd p)) () (units (.snd p)))) -∗ wpc c (k ⟨⟩) Q)
        -∗ wpc c (.op (.enqueueDma src (.remote (Dev.tc (peer p c) : Thread nD τ) (slotM p) (csem (.snd p)) hsc) (csem (.rcv p)) h1 h2 h3) k) Q) := by
  by_cases h8 : p.val < 8
  · have hs : srcM p = chunkM p := if_pos h8
    have hp : srcPts m c p = chunkPts m c p := if_pos h8
    rw [hs] at hsrc; subst hsrc
    rw [hp]
    exact send_one m K c p fullShare.left (chunkC m c p) (Entails.of_eq hp.symm) (read_first m p c h8)
  · have hs : srcM p = slotM (prev p) := if_neg h8
    have hp : srcPts m c p = slotPts m c (prev p) fullShare.left := if_neg h8
    rw [hs] at hsrc; subst hsrc
    rw [hp]
    exact send_one m K c p fullShare.left (slotC m c (prev p)) (Entails.of_eq hp.symm) (read_next m p c h8)

/-- The source's share comes from the chunk still held, or from what forwarding lends. -/
theorem source_out (p : Fin 24) (r : ℕ) (hr : 8 ≤ p.val → p.val < r + 8) :
    iprop((if p.val < 8 then chunkPts m c p else iprop(emp)) ∗ fam (fun q : Fin 24 => p.val ≤ q.val + 8 ∧ q.val < r) (Lent m c))
      ⊢ iprop(srcPts m c p ∗ fam (fun q : Fin 24 => p.val + 1 ≤ q.val + 8 ∧ q.val < r) (Lent m c)) := by
  unfold srcPts
  by_cases h8 : p.val < 8
  · rw [if_pos h8, if_pos h8, fam_congr (P := fun q : Fin 24 => p.val + 1 ≤ q.val + 8 ∧ q.val < r) (P' := fun q : Fin 24 => p.val ≤ q.val + 8 ∧ q.val < r) (fun x => by omega)]
  · have hr' := hr (by omega)
    rw [if_neg h8, if_neg h8, fam_take (P := fun q : Fin 24 => p.val ≤ q.val + 8 ∧ q.val < r) (P' := fun q : Fin 24 => p.val + 1 ≤ q.val + 8 ∧ q.val < r) (prev p)
      (fun x => by rw [Fin.ext_iff]; show _ ↔ x.val = p.val - 8 ∨ _; omega) (by show ¬ (p.val + 1 ≤ p.val - 8 + 8 ∧ _); omega) (Lent m c)]
    iintro ⟨-, H⟩; iexact H

/-- Issuing copy `p`. -/
theorem step_send (p : Fin 24) (s r : ℕ) (hs : s = p.val) (hr : 8 ≤ p.val → p.val < r + 8)
    {src dst : Memref sig .tc .vmem S128x4096 .bf16} {n : Dev nD} {ss sr : SemLoc sig} {hsc h1 h2 h3}
    (hsrc : src = srcM p) (hdst : dst = slotM p) (hn : n = peer p c) (hss : ss = csem (.snd p)) (hsr : sr = csem (.rcv p))
    (h : iprop(St m K c (3 + s) (s + 1) r 0 ∗ R) ⊢ wpc c (k ⟨⟩) Q) :
    iprop(St m K c (2 + s) s r 0 ∗ R)
      ⊢ wpc c (.op (.enqueueDma src (.remote (Dev.tc n : Thread nD τ) dst ss hsc) sr h1 h2 h3) k) Q := by
  subst hs hdst hn hss hsr
  unfold St at h ⊢
  rw [fam_take (P := fun q : Fin 24 => p.val ≤ q.val) (P' := fun q : Fin 24 => p.val + 1 ≤ q.val) p (fun x => by rw [Fin.ext_iff]; omega) (by omega) (ToSend m c),
    show ToSend m c p = iprop(atPos ER (kcell (c, .snd p)) 0 ∅ 0 ∗ dutyTok ER (kcell (c, .snd p)) 0 false ∗ dutyTok ER (kcell (peer p c, .rcv p)) 0 false
      ∗ slotEx (peer p c) p ∗ (if p.val < 8 then chunkPts m c p else iprop(emp)) ∗ extra (peer p c) p) from rfl]
  rw [fam_take (P := fun q : Fin 24 => q.val < p.val + 1 ∧ 0 ≤ uOf q) (P' := fun q : Fin 24 => q.val < p.val ∧ 0 ≤ uOf q) p (fun x => by rw [Fin.ext_iff]; omega) (by omega) (InFlight c),
    show InFlight c p = iprop(atPos ER (kcell (c, .snd p)) 0 ∅ 0 ∗ cred (tallyAt (kcell (c, .snd p)) () (units (.snd p)))) from rfl] at h
  iintro ⟨⟨HC, ⟨⟨Hat, Hts, Htr, Hd, Hc, Hx⟩, HS⟩, HF, HB, HTR, HG, HLt⟩, HRest⟩
  ihave H := (source_out m c p r hr) $$ [Hc HLt]
  · isplitl [Hc] <;> iassumption
  icases H with ⟨Hsrc, HLt⟩
  iapply (send_src m K c p hsrc) $$ [HC Hts Htr Hd Hsrc Hx]
  · isplitl [HC]; · iexact HC
    isplitl [Hts]; · iexact Hts
    isplitl [Htr]; · iexact Htr
    isplitl [Hd]; · iexact Hd
    isplitl [Hx]; · iexact Hx
    iexact Hsrc
  iintro ⟨HC, Hcr⟩
  iapply h
  isplitr [HRest]
  · isplitl [HC]; · iexact HC
    isplitl [HS]; · iexact HS
    isplitl [HF Hat Hcr]
    · isplitl [Hat Hcr]
      · isplitl [Hat] <;> iassumption
      iexact HF
    isplitl [HB]; · iexact HB
    isplitl [HTR]; · iexact HTR
    isplitl [HG]; · iexact HG
    iexact HLt
  iexact HRest

/-- Waiting for copy `p` to land. -/
theorem step_recv (p : Fin 24) (t s r w : ℕ) (hr : r = p.val) (ht : 3 + p.val ≤ t) (hs : s ≤ p.val + 8)
    {sem : DmaSem sig} {src dst : Memref sig .tc .vmem S128x4096 .bf16} {h1 h2}
    (hsem : SemLoc.dma sem = csem (.rcv p)) (hcr : dst.view.dmaCredit = Nc)
    (h : iprop(St m K c t s (r + 1) w ∗ R) ⊢ wpc c (k ⟨⟩) Q) :
    iprop(St m K c t s r w ∗ R) ⊢ wpc c (.op (.waitDma2 sem src dst h1 h2) k) Q := by
  subst hr
  have hp := p.isLt
  unfold St
  rw [fam_take (P := fun q : Fin 24 => p.val ≤ q.val) (P' := fun q : Fin 24 => p.val + 1 ≤ q.val) p (fun x => by rw [Fin.ext_iff]; omega) (by omega) (ToRecv c)]
  iintro ⟨⟨HC, HS, HF, HB, ⟨HT, HTR⟩, HG, HLt⟩, HRest⟩
  unfold ToRecv
  icases HT with ⟨Hat, Hcr⟩
  iapply (wait_one m K c (.rcv p) (by intro h; cases h) hsem hcr t (mayWait_rcv c p t ht)) $$ [HC Hat Hcr]
  · isplitl [HC]; · iexact HC
    isplitl [Hcr] <;> iassumption
  unfold pay
  iintro ⟨HC, Hz, Hpts, Hx⟩
  iapply h
  isplitr [HRest]
  · unfold St
    isplitl [HC]; · iexact HC
    isplitl [HS]; · iexact HS
    isplitl [HF]; · iexact HF
    isplitl [HB]; · iexact HB
    isplitl [HTR]; · unfold ToRecv; iexact HTR
    unfold slotPts
    ihave Hpts := (pointsTo_share (PosShare.mem_left_op_right fullShare)).1 $$ Hpts
    icases Hpts with ⟨Hl, Hr⟩
    rw [fam_take (P := fun q : Fin 24 => q.val < p.val + 1) (P' := fun q : Fin 24 => q.val < p.val) p (fun x => by rw [Fin.ext_iff]; omega) (by omega) (Got m c),
      fam_take (P := fun q : Fin 24 => s ≤ q.val + 8 ∧ q.val < p.val + 1) (P' := fun q : Fin 24 => s ≤ q.val + 8 ∧ q.val < p.val) p (fun x => by rw [Fin.ext_iff]; omega) (by omega) (Lent m c)]
    isplitl [HG Hz Hr Hx]
    · isplitl [Hz Hr Hx]
      · unfold Got slotPts
        isplitl [Hz]; · iexact Hz
        isplitl [Hr] <;> iassumption
      iexact HG
    isplitl [Hl]
    · unfold Lent slotPts; iexact Hl
    iexact HLt
  iexact HRest

/-- Waiting for copy `p` to have left. -/
theorem step_back (p : Fin 24) (t w : ℕ) (hw : w = uOf p)
    {sem : DmaSem sig} {src dst : Memref sig .tc .vmem S128x4096 .bf16} {h1 h2}
    (hsem : SemLoc.dma sem = csem (.snd p)) (hcr : dst.view.dmaCredit = Nc)
    (h : iprop(Wd m K c t (w + 1) ∗ R) ⊢ wpc c (k ⟨⟩) Q) :
    iprop(Wd m K c t w ∗ R) ⊢ wpc c (.op (.waitDma2 sem src dst h1 h2) k) Q := by
  subst hw
  have hu : ∀ x : Fin 24, uOf x = uOf p → x = p := fun x hx => uOf_inj hx
  unfold Wd
  rw [fam_take (P := fun q : Fin 24 => q.val < 24 ∧ uOf p ≤ uOf q) (P' := fun q : Fin 24 => q.val < 24 ∧ uOf p + 1 ≤ uOf q) p
    (fun x => by
      constructor
      · rintro ⟨h1, h2⟩
        rcases Nat.lt_or_eq_of_le h2 with h | h
        · exact .inr ⟨h1, h⟩
        · exact .inl (hu x h.symm)
      · rintro (rfl | ⟨h1, h2⟩)
        · exact ⟨x.isLt, le_rfl⟩
        · exact ⟨h1, by omega⟩) (by omega) (InFlight c)]
  iintro ⟨⟨HC, ⟨HT, HF⟩, HB⟩, HRest⟩
  unfold InFlight
  icases HT with ⟨Hat, Hcr⟩
  iapply (wait_one m K c (.snd p) (by intro h; cases h) hsem hcr t (mayWait_low c _ (lv_kcell (c, .snd p) ()) t)) $$ [HC Hat Hcr]
  · isplitl [HC]; · iexact HC
    isplitl [Hcr] <;> iassumption
  unfold pay
  iintro ⟨HC, Hz, Hpts⟩
  iapply h
  isplitr [HRest]
  · unfold Wd
    isplitl [HC]; · iexact HC
    isplitl [HF]; · unfold InFlight; iexact HF
    rw [fam_take (P := fun q : Fin 24 => uOf q < uOf p + 1) (P' := fun q : Fin 24 => uOf q < uOf p) p
        (fun x => by
          constructor
          · intro h
            rcases Nat.lt_or_eq_of_le (Nat.le_of_lt_succ h) with h | h
            · exact .inr h
            · exact .inl (hu x h)
          · rintro (rfl | h) <;> omega) (by omega) (Back m c)]
    isplitl [Hz Hpts]
    · unfold Back
      isplitl [Hz] <;> iassumption
    iexact HB
  iexact HRest

end Ops

end Cert.RingGemm

end
-- ==== Proof.Access.lean ====
/-
Loads and stores: a landed slot, the narrowed weights, the activations, the result's rows, the maxima.
-/
module

public import proofs.«01_k».proof.Proof.Comm

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

/-! ## What a load reads -/

theorem read_slab_of (b : Bool) (p : Fin 24) :
    ((bM b).access (slotR p)).read (Elt F) (recvB m b c) = fun i => recvd (xV m) b c ((slotR p).emb i) := by
  cases b <;> rfl
theorem read_slab (p : Fin 24) : ((bM (way p)).access (slotR p)).read (Elt F) (slotC m c p) = slabV (xV m) c p := read_slab_of m c (way p) p

theorem slab_set (p : Fin 24) : ((bM (way p)).access (slotR p)).set = (slotM p).view.set := (View.set_reshape _ _).symm

theorem slab_pts (p : Fin 24) (q : PosShare TreeShare) : slotPts m c p q
    = ((bM (way p)).access (slotR p)).loc (c : Thread nD τ) ↦[((bM (way p)).access (slotR p)).set]{q} slotC m c p := by
  unfold slotPts; rw [slab_set]; rfl
theorem rows_pts (r : Rect S4096x512) (f : Vec F S4096x512 .f32) :
    (oM.view.loc (c : Thread nD τ) ↦{fullShare} f : sProp 𝕄) = (oM.access r).loc (c : Thread nD τ) ↦{fullShare} f := rfl

section Ops
variable {α : Type} {R A B : sProp (MT nD τ sig Unit (Elt F) ℕ UU ℕ)} {Q : α → sProp (MT nD τ sig Unit (Elt F) ℕ UU ℕ)}

/-- Loading the landed slot `p`. -/
theorem step_slab (p : Fin 24) (t s r w : ℕ) (hp : p.val < r) {mm : Memref sig .tc .vmem S12x128x4096 .bf16} {off : Fin 3 → ℕ} {inb hl}
    {k : Vec F S1x128x4096 .bf16 → Prog (TpuEff nD τ sig (Elt F) Λ₀ .tc) α}
    (hm : mm = bM (way p)) (ho : off = ![p.val / 2, 0, 0])
    (h : iprop(St m K c t s r w ∗ R) ⊢ wpc c (k (slabV (xV m) c p)) Q) :
    iprop(St m K c t s r w ∗ R) ⊢ wpc c (.op (.load mm (Rect.unit (s := S12x128x4096) off S1x128x4096.size inb).toLoadRect hl) k) Q := by
  subst hm ho
  unfold St at h ⊢
  rw [fam_take (P := fun q : Fin 24 => q.val < r) (P' := fun q : Fin 24 => q.val < r ∧ q ≠ p) p
    (fun x => by by_cases e : x = p <;> simp [e, hp]) (by simp) (Got m c),
    show Got m c p = iprop(semVal (kcell (c, .rcv p)) 0 ∗ slotPts m c p fullShare.right ∗ extra c p) from rfl] at h ⊢
  rw [slab_pts] at h ⊢
  iintro ⟨⟨HC, HS, HF, HB, HTR, ⟨⟨Hz, Hp, Hx⟩, HG⟩, HLt⟩, HRest⟩
  iapply (wp_load_rect 𝒱₀ (c : Thread nD τ) none Set.univ (m := bM (way p)) (r := slotR p) (q := fullShare.right) (f := slotC m c p)
    (S := ((bM (way p)).access (slotR p)).set) (Finset.Subset.refl _)) $$ Hp
  iintro Hp
  rw [read_slab]
  iapply h
  isplitr [HRest]
  · isplitl [HC]; · iexact HC
    isplitl [HS]; · iexact HS
    isplitl [HF]; · iexact HF
    isplitl [HB]; · iexact HB
    isplitl [HTR]; · iexact HTR
    isplitl [HG Hz Hp Hx]
    · isplitl [Hz Hp Hx]
      · isplitl [Hz]; · iexact Hz
        isplitl [Hp]; · iexact Hp
        iexact Hx
      iexact HG
    iexact HLt
  iexact HRest

/-- Loading the narrowed weights. -/
theorem step_weights {off : Fin 2 → ℕ} {inb hl} {k : Vec F S4096x512 .bf16 → Prog (TpuEff nD τ sig (Elt F) Λ₀ .tc) α} (ho : off = fun _ => 0)
    (h : iprop(A ∗ B ∗ Wt m c ∗ R) ⊢ wpc c (k (weightV (hV m) c)) Q) :
    iprop(A ∗ B ∗ Wt m c ∗ R) ⊢ wpc c (.op (.load wM (Rect.unit (s := S4096x512) off S4096x512.size inb).toLoadRect hl) k) Q := by
  unfold Wt at h ⊢
  iintro ⟨HA, HB, HW, HR⟩
  iapply (wp_load 𝒱₀ (c : Thread nD τ) none Set.univ (m := wM) (S := Finset.univ) (Finset.subset_univ _)) $$ HW
  iintro HW
  rw [show wM.view.readAt (Elt F) (Rect.unit (s := S4096x512) off S4096x512.size inb).toLoadRect (wC m c) = weightV (hV m) c from
    Memref.readAt_unit_zero (Elt F) cc0_scratch0 ho inb (wC m c)]
  iapply h
  isplitl [HA]; · iexact HA
  isplitl [HB]; · iexact HB
  isplitl [HW] <;> iassumption

/-- Loading from the result's buffer what no store depends on. -/
theorem step_peek (g : ℕ) {off : Fin 2 → ℕ} {sz : Fin 2 → ℕ} {inb hl}
    {k : Vec F (Rect.unit (s := S4096x512) off sz inb).shape .f32 → Prog (TpuEff nD τ sig (Elt F) Λ₀ .tc) α}
    (h : ∀ v, iprop(A ∗ Out m c g ∗ R) ⊢ wpc c (k v) Q) :
    iprop(A ∗ Out m c g ∗ R) ⊢ wpc c (.op (.load oM (Rect.unit (s := S4096x512) off sz inb).toLoadRect hl) k) Q := by
  unfold Out at h ⊢
  iintro ⟨HA, ⟨%f, %hf, HO⟩, HR⟩
  iapply (wp_load 𝒱₀ (c : Thread nD τ) none Set.univ (m := oM) (S := Finset.univ) (Finset.subset_univ _)) $$ HO
  iintro HO
  iapply (h _)
  isplitl [HA]; · iexact HA
  isplitl [HO]
  · iexists f
    isplitr; · ipureintro; exact hf
    iexact HO
  iexact HR

/-- A store of rows into the result's buffer, keeping what was ready. -/
theorem step_rows (g : ℕ) {off : Fin 2 → ℕ} {sz : Fin 2 → ℕ} {inb : ∀ a, off a + sz a ≤ S4096x512.size a}
    {v : (Rect.unit (s := S4096x512) off sz inb).shape.Idx → Elt F .f32} {hx hm}
    {k : PUnit → Prog (TpuEff nD τ sig (Elt F) Λ₀ .tc) α}
    (hin : ∀ x, v x = prodV (xV m) (hV m) c ((Rect.unit (s := S4096x512) off sz inb).emb x))
    (hout : ∀ i, ready c (g + 1) i → i ∉ (Rect.unit (s := S4096x512) off sz inb).set → ready c g i)
    (h : iprop(A ∗ Out m c (g + 1) ∗ R) ⊢ wpc c (k ⟨⟩) Q) :
    iprop(A ∗ Out m c g ∗ R) ⊢ wpc c (.op (.store oM (Rect.unit (s := S4096x512) off sz inb) v Finset.univ hx hm) k) Q := by
  unfold Out at h ⊢
  iintro ⟨HA, ⟨%f, %hf, HO⟩, HR⟩
  ihave HO := (Entails.of_eq (rows_pts c (Rect.unit (s := S4096x512) off sz inb) f)) $$ HO
  iapply (wp_store 𝒱₀ (c : Thread nD τ) none Set.univ (m := oM) (r := Rect.unit (s := S4096x512) off sz inb) (Mk := Finset.univ) (f := f) (w := v)
    (S := Finset.univ) (Finset.subset_univ _)) $$ HO
  iintro HO
  iapply h
  isplitl [HA]; · iexact HA
  isplitl [HO]
  · iexists (oM.access (Rect.unit (s := S4096x512) off sz inb)).write (Elt F) f v Finset.univ
    isplitr
    · ipureintro
      intro i hi
      by_cases hs : i ∈ (oM.access (Rect.unit (s := S4096x512) off sz inb)).set
      · obtain ⟨x, -, rfl⟩ := Finset.mem_map.mp hs
        exact (View.write_emb_of_mem (v := oM.access (Rect.unit (s := S4096x512) off sz inb)) f v (Finset.mem_univ x)).trans (hin x)
      · exact (View.write_of_not_mem (v := oM.access (Rect.unit (s := S4096x512) off sz inb)) f v Finset.univ hs).trans
          (hf i (hout i hi fun hm => hs (by rw [show (oM.access (Rect.unit (s := S4096x512) off sz inb)).set = (Rect.unit (s := S4096x512) off sz inb).set from View.set_slice_whole _ _]; exact hm)))
    iexact HO
  iexact HR

end Ops

/-! ## The two kinds of stores of rows -/

section Rows
variable {α : Type} {R A : sProp (MT nD τ sig Unit (Elt F) ℕ UU ℕ)} {Q : α → sProp (MT nD τ sig Unit (Elt F) ℕ UU ℕ)}
  {k : PUnit → Prog (TpuEff nD τ sig (Elt F) Λ₀ .tc) α}

/-- Storing the product of the device's own rows. -/
theorem step_own {off : Fin 2 → ℕ} {inb : ∀ a, off a + S1024x512.size a ≤ S4096x512.size a} {v : Vec F S1024x512 .f32} {hx hm}
    (ho : off = ![1024 * c.val, 0]) (hv : v = ownV (xV m) (hV m) c)
    (h : iprop(A ∗ Out m c 1 ∗ R) ⊢ wpc c (k ⟨⟩) Q) :
    iprop(A ∗ Out m c 0 ∗ R) ⊢ wpc c (.op (.store oM (Rect.unit (s := S4096x512) off S1024x512.size inb) v Finset.univ hx hm) k) Q := by
  subst ho hv
  refine step_rows m c 0 (fun x => ?_) (fun i hi hn => ?_) h
  · refine (prodV_own (xV m) (hV m) c _ x ?_ ?_).symm
    · show 1024 * c.val + 1 * (x 0).val = _; omega
    · show 0 + 1 * (x 1).val = _; omega
  · exfalso; apply hn
    rw [Rect.mem_set_unit]
    rcases hi with ⟨hi, -⟩ | ⟨p, -, hp⟩
    · have h1 : (i 1).val < 512 := (i 1).isLt
      intro a; fin_cases a <;> simp <;> omega
    · omega

/-- Storing the product of copy `p`'s rows. -/
theorem step_tile (p : Fin 24) (g : ℕ) (hg : g = p.val + 1) {off : Fin 2 → ℕ} {inb : ∀ a, off a + S128x512.size a ≤ S4096x512.size a} {v : Vec F S128x512 .f32} {hx hm}
    (ho : off = ![128 * blk c p, 0]) (hv : v = tileV (xV m) (hV m) c p)
    (h : iprop(A ∗ Out m c (g + 1) ∗ R) ⊢ wpc c (k ⟨⟩) Q) :
    iprop(A ∗ Out m c g ∗ R) ⊢ wpc c (.op (.store oM (Rect.unit (s := S4096x512) off S128x512.size inb) v Finset.univ hx hm) k) Q := by
  subst ho hv hg
  refine step_rows m c _ (fun x => ?_) (fun i hi hn => ?_) h
  · refine (prodV_tile (xV m) (hV m) c p _ x ?_ ?_).symm
    · show 128 * blk c p + 1 * (x 0).val = _; omega
    · show 0 + 1 * (x 1).val = _; omega
  · rcases hi with ⟨hi, h1⟩ | ⟨q, hq, hle⟩
    · exact .inl ⟨hi, by omega⟩
    · by_cases e : q = p
      · subst e
        exfalso; apply hn
        rw [Rect.mem_set_unit]
        have h1 : (i 1).val < 512 := (i 1).isLt
        intro a; fin_cases a <;> simp <;> omega
      · exact .inr ⟨q, hq, by have : q.val ≠ p.val := fun h => e (Fin.ext h); omega⟩

end Rows

/-- After the 25 stores every row is ready. -/
theorem ready_all (i : S4096x512.Idx) : ready c 25 i := by
  have h : (i 0).val < 4096 := (i 0).isLt
  rcases blk_cover c ⟨(i 0).val / 128, by omega⟩ with hb | ⟨p, hp⟩
  · refine .inl ⟨?_, by omega⟩
    simp only at hb; omega
  · exact .inr ⟨p, hp.symm, by omega⟩

end Cert.RingGemm

end
-- ==== Proof.Whole.lean ====
/-
Loads and stores of whole buffers and of the maxima.
-/
module

public import proofs.«01_k».proof.Proof.Access

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

/-- The weights' scratch before they are narrowed into it. -/
def WtEx (c : Dev nD) : sProp 𝕄 := iprop(∃ f : Buf (Elt F) (wM.view.loc (c : Thread nD τ)), wM.view.loc (c : Thread nD τ) ↦[Finset.univ]{fullShare} f)
/-- The weights' array, unchanged. -/
def Arr (c : Dev nD) : sProp 𝕄 := hM.view.loc (c : Thread nD τ) ↦[hM.view.set]{fullShare} arrC m c
/-- The result. -/
def Res (c : Dev nD) : sProp 𝕄 := oM.view.loc (c : Thread nD τ) ↦[Finset.univ]{fullShare} resC m c

theorem zero2 : (![0, 0] : Fin 2 → ℕ) = fun _ => 0 := funext fun a => by fin_cases a <;> rfl

/-- The weights' staging buffer becomes the result's, nothing of it computed yet. -/
theorem arrived_out : wArrived m c ⊢ iprop(Out m c 0 ∗ Arr m c) := by
  unfold wArrived Out Arr
  iintro ⟨Ho, Hh⟩
  isplitl [Ho]
  · iexists (outC m c)
    isplitr
    · ipureintro
      rintro i (⟨-, h⟩ | ⟨p, -, h⟩) <;> omega
    rw [show oM.view.set = Finset.univ from View.set_whole _]
    iexact Ho
  iexact Hh

section Ops
variable {α : Type} {R A B C : sProp (MT nD τ sig Unit (Elt F) ℕ UU ℕ)} {Q : α → sProp (MT nD τ sig Unit (Elt F) ℕ UU ℕ)}

/-! ## Whole buffers -/

/-- Loading the weights as they arrived. -/
theorem step_read_arrived {inb hl} {k : Vec F S4096x512 .f32 → Prog (TpuEff nD τ sig (Elt F) Λ₀ .tc) α}
    (h : iprop(A ∗ wArrived m c ∗ R) ⊢ wpc c (k (hV m c)) Q) :
    iprop(A ∗ wArrived m c ∗ R) ⊢ wpc c (.op (.load oM (Rect.unit (s := S4096x512) ![0, 0] S4096x512.size inb).toLoadRect hl) k) Q := by
  unfold wArrived at h ⊢
  iintro ⟨HA, ⟨HO, HH⟩, HR⟩
  iapply (wp_load 𝒱₀ (c : Thread nD τ) none Set.univ (m := oM) (S := oM.view.set) (View.setOn_subset_set _ _)) $$ HO
  iintro HO
  rw [show oM.view.readAt (Elt F) (Rect.unit (s := S4096x512) ![0, 0] S4096x512.size inb).toLoadRect (outC m c) = hV m c from
    Memref.readAt_unit_zero (Elt F) cc0_stg1_0 zero2 inb (outC m c)]
  iapply h
  isplitl [HA]; · iexact HA
  isplitl [HO HH]
  · isplitl [HO] <;> iassumption
  iexact HR

/-- Loading from the weights' scratch what nothing depends on. -/
theorem step_peek_w {inb hl} {k : Vec F S4096x512 .bf16 → Prog (TpuEff nD τ sig (Elt F) Λ₀ .tc) α}
    (h : ∀ v, iprop(A ∗ B ∗ WtEx c ∗ R) ⊢ wpc c (k v) Q) :
    iprop(A ∗ B ∗ WtEx c ∗ R) ⊢ wpc c (.op (.load wM (Rect.unit (s := S4096x512) ![0, 0] S4096x512.size inb).toLoadRect hl) k) Q := by
  unfold WtEx at h ⊢
  iintro ⟨HA, HB, ⟨%f, HW⟩, HR⟩
  iapply (wp_load 𝒱₀ (c : Thread nD τ) none Set.univ (m := wM) (S := Finset.univ) (Finset.subset_univ _)) $$ HW
  iintro HW
  iapply (h _)
  isplitl [HA]; · iexact HA
  isplitl [HB]; · iexact HB
  isplitl [HW]
  · iexists f; iexact HW
  iexact HR

theorem weights_pts (r : Rect S4096x512) (f : Vec F S4096x512 .bf16) :
    (wM.view.loc (c : Thread nD τ) ↦{fullShare} f : sProp 𝕄) = (wM.access r).loc (c : Thread nD τ) ↦{fullShare} f := rfl

/-- Storing the narrowed weights. -/
theorem step_narrow {inb} {v : Vec F S4096x512 .bf16} {hx hm} {k : PUnit → Prog (TpuEff nD τ sig (Elt F) Λ₀ .tc) α} (hv : v = weightV (hV m) c)
    (h : iprop(A ∗ B ∗ Wt m c ∗ R) ⊢ wpc c (k ⟨⟩) Q) :
    iprop(A ∗ B ∗ WtEx c ∗ R) ⊢ wpc c (.op (.store wM (Rect.unit (s := S4096x512) ![0, 0] S4096x512.size inb) v Finset.univ hx hm) k) Q := by
  subst hv
  unfold Wt at h
  unfold WtEx
  have hw : ∀ f : Vec F S4096x512 .bf16, (wM.access (Rect.unit (s := S4096x512) ![0, 0] S4096x512.size inb)).write (Elt F) f (weightV (hV m) c) Finset.univ = wC m c :=
    fun f => Memref.write_access_unit_zero_univ (Elt F) cc0_scratch0 zero2 inb f _
  iintro ⟨HA, HB, ⟨%f, HW⟩, HR⟩
  ihave HW := (Entails.of_eq (weights_pts c (Rect.unit (s := S4096x512) ![0, 0] S4096x512.size inb) f)) $$ HW
  iapply (wp_store 𝒱₀ (c : Thread nD τ) none Set.univ (m := wM) (r := Rect.unit (s := S4096x512) ![0, 0] S4096x512.size inb) (Mk := Finset.univ) (f := f)
    (w := weightV (hV m) c) (S := Finset.univ) (Finset.subset_univ _)) $$ HW
  iintro HW
  rw [hw f]
  iapply h
  isplitl [HA]; · iexact HA
  isplitl [HB]; · iexact HB
  isplitl [HW] <;> iassumption

/-- Loading the device's own activations. -/
theorem step_x {inb hl} {k : Vec F S1024x4096 .bf16 → Prog (TpuEff nD τ sig (Elt F) Λ₀ .tc) α}
    (h : iprop(A ∗ B ∗ C ∗ Xk m c ∗ R) ⊢ wpc c (k (xV m c)) Q) :
    iprop(A ∗ B ∗ C ∗ Xk m c ∗ R) ⊢ wpc c (.op (.load xM (Rect.unit (s := S1024x4096) ![0, 0] S1024x4096.size inb).toLoadRect hl) k) Q := by
  unfold Xk at h ⊢
  iintro ⟨HA, HB, HC, HX, HR⟩
  iapply (wp_load 𝒱₀ (c : Thread nD τ) none Set.univ (m := xM) (S := Finset.univ) (Finset.subset_univ _)) $$ HX
  iintro HX
  rw [show xM.view.readAt (Elt F) (Rect.unit (s := S1024x4096) ![0, 0] S1024x4096.size inb).toLoadRect (xC m c) = xV m c from
    Memref.readAt_unit_zero (Elt F) cc0_stg0_0 zero2 inb (xC m c)]
  iapply h
  isplitl [HA]; · iexact HA
  isplitl [HB]; · iexact HB
  isplitl [HC]; · iexact HC
  isplitl [HX] <;> iassumption

/-! ## The maxima -/

theorem am_set (i : Fin 4) : (aM.access (amR i)).set = (amM i).view.set := (View.set_reshape _ _).symm
theorem am_pts (i : Fin 4) (q : PosShare TreeShare) (f : Vec F S4x8x128 .f32) :
    ((amM i).view.loc (c : Thread nD τ) ↦[(amM i).view.set]{q} f : sProp 𝕄)
      = (aM.access (amR i)).loc (c : Thread nD τ) ↦[(aM.access (amR i)).set]{q} f := by
  rw [am_set]; rfl

/-- Loading from slot 3 of the maxima what nothing depends on. -/
theorem step_max_peek {hl} {k : Vec F S1x8x128 .f32 → Prog (TpuEff nD τ sig (Elt F) Λ₀ .tc) α}
    (h : ∀ v, iprop(A ∗ B ∗ C ∗ amEx c 3 ∗ R) ⊢ wpc c (k v) Q) :
    iprop(A ∗ B ∗ C ∗ amEx c 3 ∗ R) ⊢ wpc c (.op (.load aM (amR 3).toLoadRect hl) k) Q := by
  unfold amEx at h ⊢
  iintro ⟨HA, HB, HC, ⟨%f, HM⟩, HR⟩
  ihave HM := (Entails.of_eq (am_pts c 3 fullShare f)) $$ HM
  iapply (wp_load_rect 𝒱₀ (c : Thread nD τ) none Set.univ (m := aM) (r := amR 3) (q := fullShare) (f := f) (S := (aM.access (amR 3)).set) (Finset.Subset.refl _)) $$ HM
  iintro HM
  iapply (h _)
  isplitl [HA]; · iexact HA
  isplitl [HB]; · iexact HB
  isplitl [HC]; · iexact HC
  isplitl [HM]
  · iexists f
    iapply (Entails.of_eq (am_pts c 3 fullShare f).symm); iexact HM
  iexact HR

theorem up_own (c : Dev nD) : up (3 - (3 : Fin 4).val) c = c := by revert c; decide

/-- Storing the device's own maximum over all of slot 3. -/
theorem step_max_store {v : Vec F S1x8x128 .f32} {hx hm} {k : PUnit → Prog (TpuEff nD τ sig (Elt F) Λ₀ .tc) α}
    (hv : ∀ x, v x = maxV (xV m) (hV m) c)
    (h : iprop(A ∗ B ∗ C ∗ amPts m c 3 fullShare ∗ R) ⊢ wpc c (k ⟨⟩) Q) :
    iprop(A ∗ B ∗ C ∗ amEx c 3 ∗ R) ⊢ wpc c (.op (.store aM (amR 3) v Finset.univ hx hm) k) Q := by
  have hw : ∀ f : Vec F S4x8x128 .f32,
      ((aM.access (amR 3)).loc (c : Thread nD τ) ↦[(aM.access (amR 3)).set]{fullShare} (aM.access (amR 3)).write (Elt F) f v Finset.univ : sProp 𝕄)
        = amPts m c 3 fullShare := fun f => by
    unfold amPts
    refine Eq.trans ?_ (am_pts c 3 fullShare (amC m c 3)).symm
    refine pointsTo_congr fun j hj => ?_
    obtain ⟨x, -, rfl⟩ := Finset.mem_map.mp hj
    refine (View.write_emb_of_mem (v := aM.access (amR 3)) f v (Finset.mem_univ x)).trans ((hv x).trans ?_)
    exact ((maxesV_slot (xV m) (hV m) 3 c x).trans (by rw [up_own])).symm
  unfold amEx
  iintro ⟨HA, HB, HC, ⟨%f, HM⟩, HR⟩
  ihave HM := (Entails.of_eq (am_pts c 3 fullShare f)) $$ HM
  iapply (wp_store 𝒱₀ (c : Thread nD τ) none Set.univ (m := aM) (r := amR 3) (Mk := Finset.univ) (f := f) (w := v)
    (S := (aM.access (amR 3)).set) (View.setOn_subset_set _ _)) $$ HM
  iintro HM
  ihave HM := (Entails.of_eq (hw f)) $$ HM
  iapply h
  isplitl [HA]; · iexact HA
  isplitl [HB]; · iexact HB
  isplitl [HC]; · iexact HC
  isplitl [HM] <;> iassumption

/-- Loading the first element of slot `i`: the maximum of the device `i + 1` places back. -/
theorem step_max_load (i : Fin 3) (b d : ℕ) (hi : i.val < d) {off : Fin 3 → ℕ} {inb hl} {k : Vec F S1x1x1 .f32 → Prog (TpuEff nD τ sig (Elt F) Λ₀ .tc) α}
    (ho : off = ![i.val, 0, 0])
    (h : iprop(A ∗ Am m c 3 b d ∗ R) ⊢ wpc c (k (maxAt (xV m) (hV m) c (3 - i.val))) Q) :
    iprop(A ∗ Am m c 3 b d ∗ R) ⊢ wpc c (.op (.load aM (Rect.unit (s := S4x8x128) off S1x1x1.size inb).toLoadRect hl) k) Q := by
  subst ho
  have hsub : (aM.access (Rect.unit (s := S4x8x128) ![i.val, 0, 0] S1x1x1.size inb)).set ⊆ (aM.access (amR i.castSucc)).set := by
    rw [show (aM.access (Rect.unit (s := S4x8x128) ![i.val, 0, 0] S1x1x1.size inb)).set = (Rect.unit (s := S4x8x128) ![i.val, 0, 0] S1x1x1.size inb).set from View.set_slice_whole _ _,
      show (aM.access (amR i.castSucc)).set = (amR i.castSucc).set from View.set_slice_whole _ _]
    intro j hj
    rw [mem_amR]
    rw [Rect.mem_set_unit] at hj
    have := hj 0
    simp at this
    show (j 0).val = i.val
    omega
  have hrd : (aM.access (Rect.unit (s := S4x8x128) ![i.val, 0, 0] S1x1x1.size inb)).read (Elt F) (amC m c i.castSucc) = maxAt (xV m) (hV m) c (3 - i.val) := by
    funext x
    have hx : (x 0).val < 1 := (x 0).isLt
    show maxV (xV m) (hV m) (up (3 - (i.val + 1 * (x 0).val)) c) = maxV (xV m) (hV m) (up (3 - i.val) c)
    rw [show i.val + 1 * (x 0).val = i.val from by omega]
  unfold Am at h ⊢
  rw [fam_take (P := fun q : Fin 3 => q.val < d) (P' := fun q : Fin 3 => q.val < d ∧ q ≠ i)
    i (fun x => by by_cases e : x = i <;> simp [e, hi]) (by simp) (MaxGot m c),
    show MaxGot m c i = iprop(semVal (kcell (c, .arc i)) 0 ∗ amPts m c i.castSucc fullShare) from rfl,
    show amPts m c i.castSucc fullShare = _ from am_pts c i.castSucc fullShare (amC m c i.castSucc)] at h ⊢
  iintro ⟨HA, ⟨HT, HF, HB, HR, ⟨Hz, HM⟩, HG⟩, HRest⟩
  iapply (wp_load_rect 𝒱₀ (c : Thread nD τ) none Set.univ (m := aM) (r := Rect.unit (s := S4x8x128) ![i.val, 0, 0] S1x1x1.size inb) (q := fullShare)
    (f := amC m c i.castSucc) (S := (aM.access (amR i.castSucc)).set) hsub) $$ HM
  iintro HM
  rw [hrd]
  iapply h
  isplitl [HA]; · iexact HA
  isplitr [HRest]
  · isplitl [HT]; · iexact HT
    isplitl [HF]; · iexact HF
    isplitl [HB]; · iexact HB
    isplitl [HR]; · iexact HR
    isplitl [Hz HM]
    · isplitl [Hz] <;> iassumption
    iexact HG
  iexact HRest

/-! ## The result -/

/-- The whole product, read back. -/
theorem step_read_prod {inb hl} {k : Vec F S4096x512 .f32 → Prog (TpuEff nD τ sig (Elt F) Λ₀ .tc) α}
    (h : iprop(A ∗ B ∗ Out m c 25 ∗ R) ⊢ wpc c (k (prodV (xV m) (hV m) c)) Q) :
    iprop(A ∗ B ∗ Out m c 25 ∗ R) ⊢ wpc c (.op (.load oM (Rect.unit (s := S4096x512) ![0, 0] S4096x512.size inb).toLoadRect hl) k) Q := by
  unfold Out at h ⊢
  iintro ⟨HA, HB, ⟨%f, %hf, HO⟩, HR⟩
  iapply (wp_load 𝒱₀ (c : Thread nD τ) none Set.univ (m := oM) (S := Finset.univ) (Finset.subset_univ _)) $$ HO
  iintro HO
  rw [show oM.view.readAt (Elt F) (Rect.unit (s := S4096x512) ![0, 0] S4096x512.size inb).toLoadRect f = prodV (xV m) (hV m) c from
    (Memref.readAt_unit_zero (Elt F) cc0_stg1_0 zero2 inb f).trans (funext fun i => hf i (ready_all c i))]
  iapply h
  isplitl [HA]; · iexact HA
  isplitl [HB]; · iexact HB
  isplitl [HO]
  · iexists f
    isplitr; · ipureintro; exact hf
    iexact HO
  iexact HR

/-- The last store. -/
theorem step_result {inb} {v : Vec F S4096x512 .f32} {hx hm} {k : PUnit → Prog (TpuEff nD τ sig (Elt F) Λ₀ .tc) α} (hv : v = outV (xV m) (hV m) c)
    (h : iprop(A ∗ B ∗ Res m c ∗ R) ⊢ wpc c (k ⟨⟩) Q) :
    iprop(A ∗ B ∗ Out m c 25 ∗ R) ⊢ wpc c (.op (.store oM (Rect.unit (s := S4096x512) ![0, 0] S4096x512.size inb) v Finset.univ hx hm) k) Q := by
  subst hv
  unfold Res at h
  unfold Out
  have hw : ∀ f : Vec F S4096x512 .f32, (oM.access (Rect.unit (s := S4096x512) ![0, 0] S4096x512.size inb)).write (Elt F) f (outV (xV m) (hV m) c) Finset.univ = resC m c :=
    fun f => Memref.write_access_unit_zero_univ (Elt F) cc0_stg1_0 zero2 inb f _
  iintro ⟨HA, HB, ⟨%f, %hf, HO⟩, HR⟩
  ihave HO := (Entails.of_eq (rows_pts c (Rect.unit (s := S4096x512) ![0, 0] S4096x512.size inb) f)) $$ HO
  iapply (wp_store 𝒱₀ (c : Thread nD τ) none Set.univ (m := oM) (r := Rect.unit (s := S4096x512) ![0, 0] S4096x512.size inb) (Mk := Finset.univ) (f := f)
    (w := outV (xV m) (hV m) c) (S := Finset.univ) (Finset.subset_univ _)) $$ HO
  iintro HO
  rw [hw f]
  iapply h
  isplitl [HA]; · iexact HA
  isplitl [HB]; · iexact HB
  isplitl [HO] <;> iassumption

end Ops

end Cert.RingGemm

end
-- ==== Proof.Split.lean ====
/-
The buffers as their parts: a receive buffer is its twelve slots, the buffer of maxima its four, the activations'
block the eight chunks that are sent.
-/
module

public import proofs.«01_k».proof.Proof.Whole

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

/-- A buffer is the parts that cover it without overlap. -/
theorem parts_eq {ℓ : Loc nD τ sig} {T : Type} [DecidableEq T] (S : Finset T) (Ks : T → Finset (Idx ℓ))
    (hc : ∀ i, ∃ t ∈ S, i ∈ Ks t) (hd : ∀ t ∈ S, ∀ t' ∈ S, t ≠ t' → Disjoint (Ks t) (Ks t')) (q : PosShare TreeShare) (f : Buf (Elt F) ℓ) :
    (ℓ ↦[Finset.univ]{q} f : sProp 𝕄) = bigSep S fun t => ℓ ↦[Ks t]{q} f := by
  rw [← pointsTo_biUnion S Ks hd]
  refine congrArg (fun I => (ℓ ↦[I]{q} f : sProp 𝕄)) (Finset.eq_univ_iff_forall.mpr fun i => ?_).symm
  obtain ⟨t, ht, hi⟩ := hc i
  exact Finset.mem_biUnion.mpr ⟨t, ht, hi⟩

/-! ## The receive buffers -/

theorem slot_set (p : Fin 24) : (slotM p).view.set = ((bM (way p)).access (slotR p)).set := View.set_reshape _ _

theorem slot_pts (p : Fin 24) (q : PosShare TreeShare) (f : (bM (way p)).view.ty.Contents (Elt F)) :
    ((slotM p).view.loc (c : Thread nD τ) ↦[(slotM p).view.set]{q} f : sProp 𝕄)
      = (bM (way p)).view.loc (c : Thread nD τ) ↦[((bM (way p)).access (slotR p)).set]{q} f := by
  rw [slot_set]; rfl

theorem slots_cover (b : Bool) (i : S12x128x4096.Idx) :
    ∃ p : Fin 24, way p = b ∧ i ∈ (slotR p).set := by
  have hi : (i 0).val < 12 := (i 0).isLt
  cases b
  · exact ⟨⟨2 * (i 0).val, by omega⟩, by unfold way; simp, by rw [mem_slotR]; show _ = 2 * (i 0).val / 2; omega⟩
  · exact ⟨⟨2 * (i 0).val + 1, by omega⟩, by unfold way; simp, by rw [mem_slotR]; show _ = (2 * (i 0).val + 1) / 2; omega⟩

theorem way_mod : ∀ p q : Fin 24, way p = way q → p.val % 2 = q.val % 2 := by decide

theorem slots_apart {p q : Fin 24} (hw : way p = way q) (hn : p ≠ q) : Disjoint (slotR p).set (slotR q).set := by
  rw [Finset.disjoint_left]
  intro i hp hq
  rw [mem_slotR] at hp hq
  refine hn (Fin.ext ?_)
  have h2 : p.val % 2 = q.val % 2 := way_mod p q hw
  omega

/-- A receive buffer is its twelve slots. -/
theorem slots_eq (b : Bool) (q : PosShare TreeShare) (f : (bM b).view.ty.Contents (Elt F)) :
    ((bM b).view.loc (c : Thread nD τ) ↦[Finset.univ]{q} f : sProp 𝕄)
      = fam (fun p : Fin 24 => way p = b) fun p => (bM b).view.loc (c : Thread nD τ) ↦[((bM b).access (slotR p)).set]{q} f := by
  cases b
  · have hs : ∀ p, ((bM false).access (slotR p)).set = (slotR p).set := fun p => View.set_slice_whole _ _
    refine parts_eq (ℓ := (bM false).view.loc (c : Thread nD τ)) (Finset.univ.filter fun p : Fin 24 => way p = false) (fun p => ((bM false).access (slotR p)).set) (fun i => ?_) (fun p hp q hq hn => ?_) q f
    · obtain ⟨p, hp, hi⟩ := slots_cover false i
      exact ⟨p, Finset.mem_filter.mpr ⟨Finset.mem_univ _, hp⟩, by rw [hs p]; exact hi⟩
    · have hd := slots_apart ((Finset.mem_filter.mp hp).2.trans (Finset.mem_filter.mp hq).2.symm) hn
      rw [← hs p, ← hs q] at hd; exact hd
  · have hs : ∀ p, ((bM true).access (slotR p)).set = (slotR p).set := fun p => View.set_slice_whole _ _
    refine parts_eq (ℓ := (bM true).view.loc (c : Thread nD τ)) (Finset.univ.filter fun p : Fin 24 => way p = true) (fun p => ((bM true).access (slotR p)).set) (fun i => ?_) (fun p hp q hq hn => ?_) q f
    · obtain ⟨p, hp, hi⟩ := slots_cover true i
      exact ⟨p, Finset.mem_filter.mpr ⟨Finset.mem_univ _, hp⟩, by rw [hs p]; exact hi⟩
    · have hd := slots_apart ((Finset.mem_filter.mp hp).2.trans (Finset.mem_filter.mp hq).2.symm) hn
      rw [← hs p, ← hs q] at hd; exact hd

/-- Copy by copy, at what they bring. -/
theorem slots_landed (b : Bool) (q : PosShare TreeShare) :
    ((bM b).view.loc (c : Thread nD τ) ↦[Finset.univ]{q} recvB m b c : sProp 𝕄) = fam (fun p : Fin 24 => way p = b) fun p => slotPts m c p q := by
  rw [slots_eq]
  refine bigSep_congr fun p hp => ?_
  obtain rfl := (Finset.mem_filter.mp hp).2
  exact (slot_pts c p q (recvB m (way p) c)).symm

/-- Copy by copy, at whatever they hold. -/
theorem slots_any (b : Bool) :
    (iprop(∃ f : (bM b).view.ty.Contents (Elt F), (bM b).view.loc (c : Thread nD τ) ↦[Finset.univ]{fullShare} f) : sProp 𝕄)
      ⊢ fam (fun p : Fin 24 => way p = b) (slotEx c) := by
  iintro ⟨%f, H⟩
  ihave H := (Entails.of_eq (slots_eq c b fullShare f)) $$ H
  have h : fam (fun p : Fin 24 => way p = b) (fun p => ((bM b).view.loc (c : Thread nD τ) ↦[((bM b).access (slotR p)).set]{fullShare} f : sProp 𝕄))
      ⊢ fam (fun p : Fin 24 => way p = b) (slotEx c) := bigSep_mono fun p hp => by
    obtain rfl := (Finset.mem_filter.mp hp).2
    unfold slotEx
    refine (Entails.of_eq (slot_pts c p fullShare f).symm).trans ?_
    iintro H
    iexists f
    iexact H
  iapply h; iexact H

/-! ## The maxima -/

/-- The buffer of maxima is its four slots. -/
theorem maxes_eq (q : PosShare TreeShare) (f : Vec F S4x8x128 .f32) :
    (aM.view.loc (c : Thread nD τ) ↦[Finset.univ]{q} f : sProp 𝕄)
      = bigSep Finset.univ fun i : Fin 4 => (amM i).view.loc (c : Thread nD τ) ↦[(amM i).view.set]{q} f := by
  have hs : ∀ i, (aM.access (amR i)).set = (amR i).set := fun i => View.set_slice_whole _ _
  rw [bigSep_congr fun i _ => am_pts c i q f]
  refine parts_eq (ℓ := aM.view.loc (c : Thread nD τ)) _ (fun i => (aM.access (amR i)).set) (fun i => ?_) (fun i _ j _ hn => ?_) q f
  · exact ⟨i 0, Finset.mem_univ _, by rw [hs (i 0)]; exact (mem_amR (i 0) i).mpr rfl⟩
  · have hd : Disjoint (amR i).set (amR j).set := by
      rw [Finset.disjoint_left]
      intro x hi hj
      rw [mem_amR] at hi hj
      exact hn (Fin.ext (hi.symm.trans hj))
    rw [← hs i, ← hs j] at hd; exact hd

theorem max_any (i : Fin 4) (f : Buf (Elt F) ((amM i).view.loc (c : Thread nD τ))) :
    ((amM i).view.loc (c : Thread nD τ) ↦[(amM i).view.set]{fullShare} f : sProp 𝕄) ⊢ amEx (F := F) c i := by
  unfold amEx
  iintro H
  iexists f
  iexact H

theorem maxes_any :
    (iprop(∃ f : Buf (Elt F) (aM.view.loc (c : Thread nD τ)), aM.view.loc (c : Thread nD τ) ↦[Finset.univ]{fullShare} f) : sProp 𝕄)
      ⊢ bigSep Finset.univ (amEx (F := F) c) := by
  iintro ⟨%f, H⟩
  ihave H := (Entails.of_eq (maxes_eq c fullShare f)) $$ H
  have h : (bigSep Finset.univ fun i : Fin 4 => ((amM i).view.loc (c : Thread nD τ) ↦[(amM i).view.set]{fullShare} f : sProp 𝕄))
      ⊢ bigSep Finset.univ (amEx (F := F) c) := bigSep_mono fun i _ => max_any c i f
  iapply h; iexact H

theorem maxes_landed :
    (aM.view.loc (c : Thread nD τ) ↦[Finset.univ]{fullShare} maxesV (xV m) (hV m) c : sProp 𝕄) = bigSep Finset.univ fun i => amPts m c i fullShare :=
  maxes_eq c fullShare _

/-- The device's own maximum, in the three shares its transfers read. -/
theorem own_max_shares :
    amPts m c 3 fullShare ⊣⊢ iprop(amPts m c 3 (amShare 0) ∗ amPts m c 3 (amShare 1) ∗ amPts m c 3 (amShare 2)) := by
  have h (q : PosShare TreeShare) : amPts m c 3 q ⊣⊢ iprop(amPts m c 3 q.left ∗ amPts m c 3 q.right) :=
    pointsTo_share (PosShare.mem_left_op_right q)
  have h0 := h fullShare
  have h1 := h fullShare.right
  show amPts m c 3 fullShare ⊣⊢ iprop(amPts m c 3 fullShare.left ∗ amPts m c 3 fullShare.right.left ∗ amPts m c 3 fullShare.right.right)
  exact ⟨h0.1.trans (sep_mono_r h1.1), (sep_mono_r h1.2).trans h0.2⟩

/-! ## The chunks -/

theorem mem_chunk (p : Fin 24) (i : S1024x4096.Idx) :
    i ∈ (Rect.unit (s := S1024x4096) ![512 * (p.val % 2) + 128 * (p.val / 2 % 4), 0] S128x4096.size (chunk_inb p)).set
      ↔ (i 0).val / 128 = 4 * (p.val % 2) + p.val / 2 % 4 := by
  rw [Rect.mem_set_unit]
  have h1 : (i 1).val < 4096 := (i 1).isLt
  constructor
  · intro h; have := h 0; simp at this; omega
  · intro h a
    fin_cases a <;> simp <;> omega

/-- The rows of the device's own block that copy `p < 8` sends. -/
def chunkR (p : Fin 24) : Rect S1024x4096 := Rect.unit (s := S1024x4096) ![512 * (p.val % 2) + 128 * (p.val / 2 % 4), 0] S128x4096.size (chunk_inb p)

/-- The activations' lent share is its eight chunks. -/
theorem chunks_eq :
    (xM.view.loc (c : Thread nD τ) ↦[Finset.univ]{fullShare.left} xC m c : sProp 𝕄) = fam (fun p : Fin 24 => p.val < 8) (chunkPts m c) := by
  have hs : ∀ p : Fin 24, (xM.access (chunkR p)).set = (chunkR p).set := fun p => View.set_slice_whole _ _
  refine parts_eq (ℓ := xM.view.loc (c : Thread nD τ)) _ (fun p => (xM.access (chunkR p)).set) (fun i => ?_) (fun p hp q hq hn => ?_) _ (xC m c)
  · have hi : (i 0).val < 1024 := (i 0).isLt
    refine ⟨⟨(i 0).val / 512 + 2 * ((i 0).val / 128 % 4), by omega⟩, Finset.mem_filter.mpr ⟨Finset.mem_univ _, ?_⟩, ?_⟩
    · show (i 0).val / 512 + 2 * ((i 0).val / 128 % 4) < 8; omega
    · have hd : (i 0).val / 512 < 2 := by omega
      rw [hs]
      refine (mem_chunk _ i).mpr ?_
      show _ = 4 * (((i 0).val / 512 + 2 * ((i 0).val / 128 % 4)) % 2) + ((i 0).val / 512 + 2 * ((i 0).val / 128 % 4)) / 2 % 4
      have h4 : (i 0).val / 512 = (i 0).val / 128 / 4 := by omega
      generalize (i 0).val / 128 = e at h4 ⊢
      generalize (i 0).val / 512 = d at h4 hd ⊢
      have h5 : (d + 2 * (e % 4)) / 2 = e % 4 := by omega
      have h6 : (d + 2 * (e % 4)) % 2 = d := by omega
      rw [h5, h6]
      omega
  · have hp := (Finset.mem_filter.mp hp).2
    have hq := (Finset.mem_filter.mp hq).2
    have hd : Disjoint (chunkR p).set (chunkR q).set := by
      rw [Finset.disjoint_left]
      intro i h1 h2
      have h1 := (mem_chunk _ _).mp h1
      have h2 := (mem_chunk _ _).mp h2
      exact hn (Fin.ext (by omega))
    rw [← hs p, ← hs q] at hd; exact hd

end Cert.RingGemm

end
-- ==== Proof.Ends.lean ====
/-
What a device holds on entry and on leaving, as the state between operations at its first and its last: the begin
after the barrier, the turn from the copies to the maxima, the end.
-/
module

public import proofs.«01_k».proof.Proof.Split

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

/-! ## Families -/

/-- A family over the copies, way by way. -/
theorem by_way (Φ : Fin 24 → sProp (MT nD τ sig Unit (Elt F) ℕ UU ℕ)) :
    bigSep Finset.univ Φ = iprop(fam (fun p => way p = false) Φ ∗ fam (fun p => way p = true) Φ) := by
  unfold fam
  rw [bigSep_filter_split Finset.univ (fun p => way p = false),
    Finset.filter_congr fun p _ => (Bool.not_eq_false (way p)).to_iff]
  rfl

/-- A family over the roles, kind by kind. -/
theorem by_role (Φ : Role → sProp (MT nD τ sig Unit (Elt F) ℕ UU ℕ)) :
    bigSep Finset.univ Φ = iprop(Φ .bar ∗ Φ .wsm ∗ (bigSep Finset.univ fun p => Φ (.snd p)) ∗ (bigSep Finset.univ fun p => Φ (.rcv p))
      ∗ (bigSep Finset.univ fun i => Φ (.asn i)) ∗ bigSep Finset.univ fun i => Φ (.arc i)) := by
  rw [bigSep_univ_equiv roleSum, bigSep_univ_sum, bigSep_univ_sum, bigSep_univ_sum, bigSep_univ_sum, bigSep_univ_sum,
    bigSep_univ_of_subsingleton (), bigSep_univ_of_subsingleton ()]
  rfl

theorem three (Φ : Fin 3 → sProp (MT nD τ sig Unit (Elt F) ℕ UU ℕ)) : bigSep Finset.univ Φ = iprop(Φ 0 ∗ Φ 1 ∗ Φ 2) := by
  rw [bigSep_univ_eq_bigSepL [0, 1, 2] (by decide) (by decide)]; rfl
theorem four (Φ : Fin 4 → sProp (MT nD τ sig Unit (Elt F) ℕ UU ℕ)) : bigSep Finset.univ Φ = iprop(Φ 0 ∗ Φ 1 ∗ Φ 2 ∗ Φ 3) := by
  rw [bigSep_univ_eq_bigSepL [0, 1, 2, 3] (by decide) (by decide)]; rfl

/-- A family that holds something at one index only. -/
theorem only {I : Type} [Fintype I] [DecidableEq I] (a : I) (Φ : I → sProp (MT nD τ sig Unit (Elt F) ℕ UU ℕ)) (h : ∀ i, i ≠ a → Φ i = iprop(emp)) :
    bigSep Finset.univ Φ = Φ a := by
  rw [bigSep_univ_split a, bigSep_congr (Ψ := fun _ => iprop(emp)) fun i hi => h i (Finset.ne_of_mem_erase hi)]
  rw [show (bigSep (Finset.univ.erase a) fun _ => iprop(emp)) = (iprop(emp) : sProp 𝕄) from bigSep_emp_const _]
  exact equiv_iff.mp sep_emp

/-! ## The begin -/

/-- The duties of copy `p`. -/
def SendToks (c : Dev nD) (p : Fin 24) : sProp 𝕄 :=
  iprop(atPos ER (kcell (c, .snd p)) 0 ∅ 0 ∗ dutyTok ER (kcell (c, .snd p)) 0 false ∗ dutyTok ER (kcell (peer p c, .rcv p)) 0 false)
/-- The duties of the `i`-th transfer of the maximum. -/
def MaxToks (c : Dev nD) (i : Fin 3) : sProp 𝕄 :=
  iprop(atPos ER (kcell (c, .asn i)) 0 ∅ 0 ∗ dutyTok ER (kcell (c, .asn i)) 0 false ∗ dutyTok ER (kcell (up (1 + i.val) c, .arc i)) 0 false)

theorem up_up : ∀ c : Dev nD, up 1 (up 3 c) = c ∧ up 3 (up 1 c) = c ∧ up 2 (up 3 c) = up 1 c := by decide
theorem peer_ways : ∀ (c : Dev nD) (p : Fin 24), (way p = false → peer p (up 3 c) = c) ∧ (way p = true → peer p (up 1 c) = c) := by decide

/-- What the two barrier signals hand over, from the buffers' parts. -/
theorem meet_pays :
    iprop(fam (fun p => way p = false) (slotEx (F := F) c) ∗ fam (fun p => way p = true) (slotEx c) ∗ amEx c 0 ∗ amEx c 1 ∗ amEx c 2)
      ⊢ iprop(pay m (up 3 c) false .bar ∗ pay m (up 1 c) true .bar) := by
  have h0 : fam (fun p => way p = false) (slotEx (F := F) c) = bigSep (Finset.univ.filter fun p => way p = false) fun p => slotEx (peer p (up 3 c)) p :=
    bigSep_congr fun p hp => by rw [(peer_ways c p).1 (Finset.mem_filter.mp hp).2]
  have h1 : fam (fun p => way p = true) (slotEx (F := F) c) = bigSep (Finset.univ.filter fun p => way p = true) fun p => slotEx (peer p (up 1 c)) p :=
    bigSep_congr fun p hp => by rw [(peer_ways c p).2 (Finset.mem_filter.mp hp).2]
  rw [h0, h1]
  unfold pay
  simp only [if_true, if_false, Bool.false_eq_true, (up_up c).1, (up_up c).2.1]
  iintro ⟨H0, H1, A0, A1, A2⟩
  iframe

/-- The copies' targets, from what the barrier brought. -/
theorem met_pays :
    iprop(pay m c false .bar ∗ pay m c true .bar)
      ⊢ iprop((bigSep Finset.univ fun p => slotEx (F := F) (peer p c) p) ∗ amEx (up 1 c) 0 ∗ amEx (up 1 c) 1 ∗ amEx (up 3 c) 2) := by
  rw [by_way]
  unfold pay fam
  simp only [if_true, if_false, Bool.false_eq_true]
  iintro ⟨⟨H0, A0, A1⟩, H1, A2⟩
  iframe

theorem extra_all : (bigSep Finset.univ fun p => extra (F := F) (peer p c) p) = amEx (up 1 c) 1 := by
  rw [only (1 : Fin 24)]
  · show amEx (up 2 (up 3 c)) 1 = _
    rw [(up_up c).2.2]
  · intro p hp
    unfold extra
    rw [if_neg (show ¬ p.val = 1 from fun h => hp (Fin.ext h))]

theorem extra_own : (bigSep Finset.univ fun p => extra (F := F) c p) = amEx (up 2 c) 1 := by
  rw [only (1 : Fin 24)]
  · rfl
  · intro p hp
    unfold extra
    rw [if_neg (show ¬ p.val = 1 from fun h => hp (Fin.ext h))]

theorem group_three (A B C R : sProp (MT nD τ sig Unit (Elt F) ℕ UU ℕ)) : iprop((A ∗ B ∗ C) ∗ R) ⊢ iprop(A ∗ B ∗ C ∗ R) := by
  iintro ⟨⟨HA, HB, HC⟩, HR⟩
  iframe

theorem to_send_all :
    iprop(bigSep Finset.univ (SendToks c) ∗ (bigSep Finset.univ fun p => slotEx (F := F) (peer p c) p) ∗ fam (fun p : Fin 24 => p.val < 8) (chunkPts m c) ∗ amEx (up 1 c) 1)
      ⊢ fam (fun p : Fin 24 => 0 ≤ p.val) (ToSend m c) := by
  rw [fam_all (fun _ => Nat.zero_le _), ← extra_all c]
  unfold fam
  rw [bigSep_filter Finset.univ (fun p : Fin 24 => p.val < 8) (chunkPts m c), ← bigSep_sep', ← bigSep_sep', ← bigSep_sep']
  refine bigSep_mono fun p _ => ?_
  exact group_three _ _ _ _

/-- After the barrier: nothing sent. -/
theorem begin_st :
    iprop(Core m K c 2 ∗ (pay m c false .bar ∗ pay m c true .bar) ∗ bigSep Finset.univ (SendToks c) ∗ fam (fun p : Fin 24 => p.val < 8) (chunkPts m c) ∗ bigSep Finset.univ (ToRecv c))
      ⊢ iprop(St m K c 2 0 0 0 ∗ amEx (up 1 c) 0 ∗ amEx (up 3 c) 2) := by
  unfold St
  rw [fam_none (P := fun p : Fin 24 => p.val < 0 ∧ 0 ≤ uOf p) (fun p h => absurd h.1 (by omega)),
    fam_none (P := fun p : Fin 24 => uOf p < 0) (fun p h => absurd h (by omega)),
    fam_all (P := fun p : Fin 24 => 0 ≤ p.val) (fun p => Nat.zero_le _) (ToRecv c),
    fam_none (P := fun p : Fin 24 => p.val < 0) (fun p h => absurd h (by omega)),
    fam_none (P := fun p : Fin 24 => 0 ≤ p.val + 8 ∧ p.val < 0) (fun p h => absurd h.2 (by omega))]
  iintro ⟨HC, HP, HT, HX, HR⟩
  ihave HP := (met_pays m c) $$ HP
  icases HP with ⟨HS, A0, A1, A2⟩
  ihave HS := (to_send_all m c) $$ [HT HS HX A1]
  · iframe
  iframe
  isplitl [] <;> iempintro

/-! ## The turn -/

/-- What the maxima's exchange leaves alone of the copies. -/
def Keep (c : Dev nD) : sProp 𝕄 :=
  iprop((bigSep Finset.univ fun p : Fin 24 => semVal (kcell (c, .rcv p)) 0) ∗ (bigSep Finset.univ fun p => slotPts m c p fullShare.right)
    ∗ fam (fun p : Fin 24 => 24 ≤ p.val + 8 ∧ p.val < 24) (Lent m c))

theorem got_all :
    fam (fun p : Fin 24 => p.val < 24) (Got m c)
      = iprop((bigSep Finset.univ fun p : Fin 24 => semVal (kcell (c, .rcv p)) 0) ∗ (bigSep Finset.univ fun p => slotPts m c p fullShare.right) ∗ amEx (up 2 c) 1) := by
  rw [fam_all (fun p => p.isLt), ← extra_own c, ← bigSep_sep', ← bigSep_sep']
  rfl

theorem am_start :
    iprop(bigSep Finset.univ (MaxToks c) ∗ bigSep Finset.univ (MaxToRecv c) ∗ amPts m c 3 fullShare ∗ amEx (up 1 c) 0 ∗ amEx (up 2 c) 1 ∗ amEx (up 3 c) 2)
      ⊢ Am m c 0 0 0 := by
  unfold Am
  rw [fam_all (P := fun i : Fin 3 => 0 ≤ i.val) (fun p => Nat.zero_le _) (MaxToSend m c),
    fam_none (P := fun p : Fin 3 => p.val < 0 ∧ 0 ≤ p.val) (fun p h => absurd h.1 (by omega)),
    fam_none (P := fun p : Fin 3 => p.val < 0) (fun p h => absurd h (by omega)) (MaxBack m c),
    fam_none (P := fun p : Fin 3 => p.val < 0) (fun p h => absurd h (by omega)) (MaxGot m c),
    fam_all (P := fun i : Fin 3 => 0 ≤ i.val) (fun p => Nat.zero_le _) (MaxToRecv c), three (MaxToks c), three (MaxToSend m c)]
  unfold MaxToks MaxToSend
  iintro ⟨⟨⟨a0, b0, c0⟩, ⟨a1, b1, c1⟩, ⟨a2, b2, c2⟩⟩, HR, HA, A0, A1, A2⟩
  ihave HA := (own_max_shares m c).1 $$ HA
  icases HA with ⟨S0, S1, S2⟩
  isplitr [HR]
  · isplitl [a0 b0 c0 A0 S0]
    · isplitl [a0]; · iexact a0
      isplitl [b0]; · iexact b0
      isplitl [c0]; · iexact c0
      isplitl [A0]; · iexact A0
      iexact S0
    isplitl [a1 b1 c1 A1 S1]
    · isplitl [a1]; · iexact a1
      isplitl [b1]; · iexact b1
      isplitl [c1]; · iexact c1
      isplitl [A1]; · iexact A1
      iexact S1
    · isplitl [a2]; · iexact a2
      isplitl [b2]; · iexact b2
      isplitl [c2]; · iexact c2
      isplitl [A2]; · iexact A2
      iexact S2
  iframe

/-- The copies are over: all arrived, all sent; the device's own maximum is ready to be sent. -/
theorem turn :
    iprop(St m K c 26 24 24 0 ∗ amPts m c 3 fullShare ∗ (bigSep Finset.univ (MaxToks c) ∗ bigSep Finset.univ (MaxToRecv c) ∗ amEx (up 1 c) 0 ∗ amEx (up 3 c) 2))
      ⊢ iprop(Wd m K c 26 0 ∗ Am m c 0 0 0 ∗ Keep m c) := by
  unfold St Wd Keep
  rw [fam_none (P := fun p : Fin 24 => 24 ≤ p.val) (fun p h => absurd h (by omega)) (ToSend m c),
    fam_none (P := fun p : Fin 24 => 24 ≤ p.val) (fun p h => absurd h (by omega)) (ToRecv c), got_all]
  iintro ⟨⟨HC, -, HF, HB, -, ⟨G0, G1, G2⟩, HL⟩, HA, HT, HR, A0, A2⟩
  ihave HA := (am_start m c) $$ [HA HT HR A0 A2 G2]
  · iframe
  iframe

/-! ## The end -/

/-- Every lent slot, from what came back and what was never lent. -/
theorem slots_back :
    iprop((bigSep Finset.univ fun p => srcPts m c p) ∗ fam (fun p : Fin 24 => 24 ≤ p.val + 8 ∧ p.val < 24) (Lent m c))
      ⊢ iprop(fam (fun p : Fin 24 => p.val < 8) (chunkPts m c) ∗ bigSep Finset.univ fun p => slotPts m c p fullShare.left) := by
  have h0 : (bigSep (Finset.univ.filter fun p : Fin 24 => p.val < 8) fun p => srcPts m c p) = fam (fun p : Fin 24 => p.val < 8) (chunkPts m c) :=
    bigSep_congr fun p hp => by unfold srcPts; rw [if_pos (Finset.mem_filter.mp hp).2]
  have h1 : (bigSep (Finset.univ.filter fun p : Fin 24 => ¬ p.val < 8) fun p => srcPts m c p)
      = bigSep (Finset.univ.filter fun p : Fin 24 => p.val < 16) fun p => slotPts m c p fullShare.left := by
    rw [show (Finset.univ.filter fun p : Fin 24 => p.val < 16) = (Finset.univ.filter fun p : Fin 24 => ¬ p.val < 8).image prev from by decide,
      bigSep_image_of_injOn (fun p hp q hq h => by
        have hp := (Finset.mem_filter.mp (Finset.mem_coe.mp hp)).2
        have hq := (Finset.mem_filter.mp (Finset.mem_coe.mp hq)).2
        have := congrArg Fin.val h
        refine Fin.ext ?_
        unfold prev at this
        simp only at this
        omega)]
    exact bigSep_congr fun p hp => by unfold srcPts; rw [if_neg (Finset.mem_filter.mp hp).2]
  have h2 : fam (fun p : Fin 24 => 24 ≤ p.val + 8 ∧ p.val < 24) (Lent m c)
      = bigSep (Finset.univ.filter fun p : Fin 24 => ¬ p.val < 16) fun p => slotPts m c p fullShare.left := by
    rw [fam_congr (P' := fun p : Fin 24 => ¬ p.val < 16) (fun p => by omega)]; rfl
  rw [bigSep_filter_split Finset.univ (fun p : Fin 24 => p.val < 8) (Φ := fun p => srcPts m c p), h0, h1, h2,
    bigSep_filter_split Finset.univ (fun p : Fin 24 => p.val < 16) (Φ := fun p => slotPts m c p fullShare.left)]
  exact sep_assoc.1

/-- Both shares of every slot are the two receive buffers whole. -/
theorem buffers_whole :
    iprop((bigSep Finset.univ fun p => slotPts m c p fullShare.left) ∗ (bigSep Finset.univ fun p => slotPts m c p fullShare.right))
      ⊢ iprop(((bM false).view.loc (c : Thread nD τ) ↦[Finset.univ]{fullShare} recvB m false c) ∗ ((bM true).view.loc (c : Thread nD τ) ↦[Finset.univ]{fullShare} recvB m true c)) := by
  rw [by_way, by_way, ← slots_landed, ← slots_landed, ← slots_landed, ← slots_landed]
  iintro ⟨⟨L0, L1⟩, R0, R1⟩
  isplitl [L0 R0]
  · iapply (pointsTo_share (PosShare.mem_left_op_right fullShare)).2
    isplitl [L0] <;> iassumption
  · iapply (pointsTo_share (PosShare.mem_left_op_right fullShare)).2
    isplitl [L1] <;> iassumption

/-- The activations' block, whole again. -/
def XFull (c : Dev nD) : sProp 𝕄 := xM.view.loc (c : Thread nD τ) ↦[Finset.univ]{fullShare} xC m c

theorem x_split : XFull m c ⊣⊢ iprop(fam (fun p : Fin 24 => p.val < 8) (chunkPts m c) ∗ Xk m c) := by
  rw [← chunks_eq]
  exact pointsTo_share (PosShare.mem_left_op_right fullShare)

theorem am_end :
    Am m c 3 3 3 ⊢ iprop((bigSep Finset.univ fun i : Fin 3 => semVal (kcell (c, .asn i)) 0) ∗ (bigSep Finset.univ fun i : Fin 3 => semVal (kcell (c, .arc i)) 0)
      ∗ (aM.view.loc (c : Thread nD τ) ↦[Finset.univ]{fullShare} maxesV (xV m) (hV m) c)) := by
  unfold Am
  rw [fam_none (P := fun i : Fin 3 => 3 ≤ i.val) (fun i h => absurd h (by omega)) (MaxToSend m c),
    fam_none (P := fun p : Fin 3 => p.val < 3 ∧ 3 ≤ p.val) (fun p h => absurd h.2 (by omega)),
    fam_all (P := fun i : Fin 3 => i.val < 3) (fun i => i.isLt) (MaxBack m c),
    fam_all (P := fun i : Fin 3 => i.val < 3) (fun i => i.isLt) (MaxGot m c), maxes_landed, four, three (MaxBack m c), three (MaxGot m c)]
  rw [three (fun i : Fin 3 => (semVal (kcell (c, .asn i)) 0 : sProp 𝕄)), three (fun i : Fin 3 => (semVal (kcell (c, .arc i)) 0 : sProp 𝕄))]
  unfold MaxBack MaxGot
  iintro ⟨-, -, ⟨⟨a0, s0⟩, ⟨a1, s1⟩, ⟨a2, s2⟩⟩, -, ⟨⟨b0, t0⟩, ⟨b1, t1⟩, ⟨b2, t2⟩⟩⟩
  isplitl [a0 a1 a2]
  · isplitl [a0]; · iexact a0
    isplitl [a1] <;> iassumption
  isplitl [b0 b1 b2]
  · isplitl [b0]; · iexact b0
    isplitl [b1] <;> iassumption
  isplitl [t0]; · iexact t0
  isplitl [t1]; · iexact t1
  isplitl [t2]; · iexact t2
  iapply (own_max_shares m c).2
  isplitl [s0]; · iexact s0
  isplitl [s1] <;> iassumption

/-- What a device leaves: nothing owed, every counter at zero, its buffers whole. -/
def Leave (c : Dev nD) : sProp 𝕄 :=
  iprop((∃ W, owes (c : Thread nD τ) 0 W)
    ∗ (bigSep Finset.univ fun k : Role => semVal (kcell (c, k)) 0)
    ∗ (Wt m c ∗ ((bM false).view.loc (c : Thread nD τ) ↦[Finset.univ]{fullShare} recvB m false c)
      ∗ ((bM true).view.loc (c : Thread nD τ) ↦[Finset.univ]{fullShare} recvB m true c)
      ∗ (aM.view.loc (c : Thread nD τ) ↦[Finset.univ]{fullShare} maxesV (xV m) (hV m) c))
    ∗ XFull m c ∗ Res m c ∗ Arr m c)

theorem leave :
    iprop(Wd m K c 29 24 ∗ Am m c 3 3 3 ∗ Res m c
      ∗ (Keep m c ∗ Wt m c ∗ Arr m c ∗ Xk m c ∗ semVal (kcell (c, .wsm)) 0 ∗ semVal (kcell (c, .bar)) 0)) ⊢ Leave m c := by
  unfold Wd Core Keep Leave
  rw [O_end, by_role, fam_none (P := fun p : Fin 24 => p.val < 24 ∧ 24 ≤ uOf p) (fun p h => absurd h.2 (by unfold uOf; omega)),
    fam_all (P := fun p : Fin 24 => uOf p < 24) (fun p => by unfold uOf; omega) (Back m c),
    show bigSep Finset.univ (Back m c) = iprop((bigSep Finset.univ fun p : Fin 24 => semVal (kcell (c, .snd p)) 0) ∗ bigSep Finset.univ fun p => srcPts m c p) from bigSep_sep' _ _ _]
  iintro ⟨⟨⟨-, -, HO⟩, -, Z0, HS⟩, HA, HRes, ⟨Z1, HR, HL⟩, HW, HH, HX, Z2, Z3⟩
  ihave HA := (am_end m c) $$ HA
  icases HA with ⟨Z4, Z5, HA⟩
  ihave HS := (slots_back m c) $$ [HS HL]
  · isplitl [HS] <;> iassumption
  icases HS with ⟨HC, HL⟩
  ihave HX := (x_split m c).2 $$ [HC HX]
  · isplitl [HC] <;> iassumption
  ihave HB := (buffers_whole m c) $$ [HL HR]
  · isplitl [HL] <;> iassumption
  icases HB with ⟨B0, B1⟩
  isplitl [HO]; · iexact HO
  isplitl [Z0 Z1 Z2 Z3 Z4 Z5]
  · isplitl [Z3]; · iexact Z3
    isplitl [Z2]; · iexact Z2
    isplitl [Z0]; · iexact Z0
    isplitl [Z1]; · iexact Z1
    isplitl [Z4] <;> iassumption
  isplitl [HW B0 B1 HA]
  · isplitl [HW]; · iexact HW
    isplitl [B0]; · iexact B0
    isplitl [B1] <;> iassumption
  isplitl [HX]; · iexact HX
  isplitl [HRes] <;> iassumption

end Cert.RingGemm

end
-- ==== Proof.Meet.lean ====
/-
Meeting the neighbours at the barrier, fetching the weights, exchanging the maxima.
-/
module

public import proofs.«01_k».proof.Proof.Comm

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

section Ops
variable {α : Type} {R A B C : sProp (MT nD τ sig Unit (Elt F) ℕ UU ℕ)} {Q : α → sProp (MT nD τ sig Unit (Elt F) ℕ UU ℕ)}

/-! ## Entering -/

/-- A barrier signal: payment `t`, to the device `n`. -/
theorem step_signal (d : Bool) (t : ℕ) (ht : t < 29) {n : Dev nD} {k : PUnit → Prog (TpuEff nD τ sig (Elt F) Λ₀ .tc) α}
    (hp : payee c t = (n, .bar))
    (h : iprop(Core m K c (t + 1) ∗ R) ⊢ wpc c (k ⟨⟩) Q) :
    iprop(Core m K c t ∗ (dutyTok ER (kcell (n, .bar)) 0 d ∗ pay m n d .bar) ∗ R) ⊢ wpc c (.op (.semSignal (n : Thread nD τ) barS 1) k) Q := by
  have hO : O c t = O c (t + 1) + tallyAt ((n : Thread nD τ), SemLoc.reg barS) () 1 := by
    rw [O_step c t ht, hp]; rfl
  have hd : d ∈ (Rd (F := F) m).duties ((n : Thread nD τ), SemLoc.reg barS) 0 := by
    rw [show ((n : Thread nD τ), SemLoc.reg barS) = kcell (n, .bar) from rfl, duties_bar]; exact Finset.mem_univ _
  have hpay : pay m n d .bar = (Rd (F := F) m).payload ((n : Thread nD τ), SemLoc.reg barS) 0 d := (payload_eq m n .bar 0 d).symm
  unfold Core at h ⊢
  iintro ⟨⟨#HR, #HL, ⟨%W, HO⟩⟩, ⟨Ht, Hp⟩, HRest⟩
  iapply (Rounds.wp_signal 𝒱₀ ER (Rd m) (c : Thread nD τ) none (dst := (n : Thread nD τ)) (sem := barS) (r := 0) (κ := K (n, .bar)) (d := d) hd
    (amount_eq m n .bar 0 d) () (O c (t + 1)) hO (W := W)) $$ [HO Ht Hp]
  · isplitr; · iapply (records_inv m K (n, .bar)); iexact HR
    isplitl [HO]; · iexact HO
    isplitl [Ht]; · iexact Ht
    isplitl [Hp]
    · iapply (Entails.of_eq hpay); iexact Hp
    iapply (records_reached m K (n, .bar)); iexact HR
  iintro HO
  iapply h
  isplitl [HO]
  · isplitr; · iexact HR
    isplitr; · iexact HL
    iexists _; iexact HO
  iexact HRest

/-- The barrier wait: both neighbours have entered. -/
theorem step_meet {k : PUnit → Prog (TpuEff nD τ sig (Elt F) Λ₀ .tc) α}
    (h : iprop(Core m K c 2 ∗ (semVal (kcell (c, .bar)) 0 ∗ pay m c false .bar ∗ pay m c true .bar) ∗ R) ⊢ wpc c (k ⟨⟩) Q) :
    iprop(Core m K c 2 ∗ (cred (tallyAt (kcell (c, .bar)) () 2) ∗ atPos ER (kcell (c, .bar)) 0 ∅ 0) ∗ R)
      ⊢ wpc c (.op (.semWait barS 2) k) Q := by
  unfold Core at h ⊢
  iintro ⟨⟨#HR, #HL, ⟨%W, HO⟩⟩, ⟨Hcr, Hat⟩, HRest⟩
  iapply (Rounds.wp_wait_rest_token 𝒱₀ ER (Rd m) (c : Thread nD τ) none (κ := K (c, .bar)) (sm := csem .bar) (k' := 2)
      (wpE_semWait_eq 𝒱₀ (c : Thread nD τ) none Set.univ) (Set.mem_univ _) () (O := O c 2) (W := W) (R := 0) (m := 0) (T := ∅)
      (by rw [Nat.zero_add]; exact (expect_bar m c).symm)) $$ [Hcr HO Hat]
  · isplitr; · iapply (records_inv m K (c, .bar)); iexact HR
    isplitl [Hcr]; · iexact Hcr
    isplitl [HO]; · iexact HO
    isplitr; · iapply (mayWait_bar c); iexact HL
    iexact Hat
  iintro ⟨HO, Hat, -, Hpay⟩
  ihave Hp := (Entails.of_eq (rest_bar m c)) $$ Hpay
  imod (Rounds.cell_close ER (Rd m) (Set.mem_univ (K (c, .bar))) (fun h => h) (R := 0 + 1) (duties_later m (kcell (c, .bar)))) $$ [Hat] with Hz
  · isplitr; · iapply (records_inv m K (c, .bar)); iexact HR
    iexact Hat
  iapply h
  isplitl [HO]
  · isplitr; · iexact HR
    isplitr; · iexact HL
    iexists _; iexact HO
  isplitr [HRest]
  · isplitl [Hz] <;> iassumption
  iexact HRest

/-! ## The weights -/

/-- What the transfer of the weights leaves. -/
theorem landW (f : Buf (Elt F) (oM.view.loc (c : Thread nD τ))) :
    (oM.view.loc (c : Thread nD τ) ↦[oM.view.set]{fullShare} oM.view.write (Elt F) f (hM.view.read (Elt F) (arrC m c)) Finset.univ : sProp 𝕄)
      = oM.view.loc (c : Thread nD τ) ↦[oM.view.set]{fullShare} outC m c :=
  pointsTo_congr fun i hi => write_read_on (F := F) oM.view f (outC m c) hi

/-- The weights' start: into the result's staging buffer, whatever it holds. -/
theorem step_fetch {k : PUnit → Prog (TpuEff nD τ sig (Elt F) Λ₀ .tc) α} (t s r w : ℕ) {sem : SemLoc sig} {h1 h2 h3} (hsem : sem = csem .wsm)
    (h : iprop(St m K c t s r w ∗ cred (tallyAt (kcell (c, .wsm)) () (units .wsm)) ∗ R) ⊢ wpc c (k ⟨⟩) Q) :
    iprop(St m K c t s r w ∗ (dutyTok ER (kcell (c, .wsm)) 0 false
        ∗ (∃ f : Buf (Elt F) (oM.view.loc (c : Thread nD τ)), oM.view.loc (c : Thread nD τ) ↦[oM.view.set]{fullShare} f)
        ∗ (hM.view.loc (c : Thread nD τ) ↦[hM.view.set]{fullShare} arrC m c)) ∗ R)
      ⊢ wpc c (.op (.enqueueDma hM (.here oM) sem h1 h2 h3) k) Q := by
  subst hsem
  have hd : false ∈ (Rd (F := F) m).duties ((c : Thread nD τ), csem .wsm) 0 := by
    rw [show ((c : Thread nD τ), csem .wsm) = kcell (c, .wsm) from rfl, duties_one m c .wsm (by intro h; cases h)]; exact Finset.mem_singleton_self _
  unfold St Core at h ⊢
  iintro ⟨⟨⟨#HR, #HL, HO⟩, HS⟩, ⟨Ht, ⟨%f, Ho⟩, Hh⟩, HRest⟩
  iapply (Rounds.wp_copy_pointsTo 𝒱₀ ER (Rd m) (c : Thread nD τ) none (src := hM) (dst := oM) (sem := csem .wsm) (q := fullShare) (fs := arrC m c) (fd := f)
    (r := 0) (d := false) (κ := K (c, .wsm)) hd () (units .wsm) rfl (amount_eq m c .wsm 0 false)
    ((sep_mono_left (Entails.of_eq (landW m c f))).trans (Entails.of_eq (payload_eq m c .wsm 0 false).symm))) $$ [Ht Ho Hh]
  · isplitr; · iapply (records_inv m K (c, .wsm)); iexact HR
    isplitl [Hh]; · iexact Hh
    isplitl [Ho]; · iexact Ho
    isplitl [Ht]; · iexact Ht
    iapply (records_reached m K (c, .wsm)); iexact HR
  iintro Hcr
  iapply h
  isplitl [HO HS]
  · isplitl [HO]
    · isplitr; · iexact HR
      isplitr; · iexact HL
      iexact HO
    iexact HS
  isplitl [Hcr] <;> iassumption

/-- The weights' arrival. -/
theorem step_arrive {k : PUnit → Prog (TpuEff nD τ sig (Elt F) Λ₀ .tc) α} (t s r w : ℕ) {sem : DmaSem sig} {h1 h2} (hsem : SemLoc.dma sem = csem .wsm)
    (h : iprop(St m K c t s r w ∗ wArrived m c ∗ semVal (kcell (c, .wsm)) 0 ∗ R) ⊢ wpc c (k ⟨⟩) Q) :
    iprop(St m K c t s r w ∗ (cred (tallyAt (kcell (c, .wsm)) () (units .wsm)) ∗ atPos ER (kcell (c, .wsm)) 0 ∅ 0) ∗ R)
      ⊢ wpc c (.op (.waitDma2 sem hM oM h1 h2) k) Q := by
  unfold St at h ⊢
  iintro ⟨⟨HC, HS⟩, ⟨Hcr, Hat⟩, HRest⟩
  iapply (wait_one m K c .wsm (by intro h; cases h) hsem rfl t (mayWait_low c _ (lv_kcell (c, .wsm) ()) t)) $$ [HC Hcr Hat]
  · isplitl [HC]; · iexact HC
    isplitl [Hcr] <;> iassumption
  unfold pay
  iintro ⟨HC, Hz, Hp⟩
  iapply h
  isplitl [HC HS]
  · isplitl [HC] <;> iassumption
  isplitl [Hp]; · iexact Hp
  isplitl [Hz] <;> iassumption

/-! ## The maxima -/

theorem am_amount (i : Fin 4) : (amM i).view.dmaCredit = Na := by revert i; decide

/-- The transfer of the device's own maximum to the device `i + 1` places on. -/
theorem send_max (i : Fin 3) {k : PUnit → Prog (TpuEff nD τ sig (Elt F) Λ₀ .tc) α} {hsc h1 h2 h3} :
    iprop(Core m K c (26 + i.val) ∗ dutyTok ER (kcell (c, .asn i)) 0 false ∗ dutyTok ER (kcell (up (1 + i.val) c, .arc i)) 0 false
        ∗ amEx (up (1 + i.val) c) i.castSucc ∗ amPts m c 3 (amShare i))
      ⊢ iprop(((Core m K c (27 + i.val) ∗ cred (tallyAt (kcell (c, .asn i)) () (units (.asn i)))) -∗ wpc c (k ⟨⟩) Q)
        -∗ wpc c (.op (.enqueueDma (amM 3) (.remote (Dev.tc (up (1 + i.val) c) : Thread nD τ) (amM i.castSucc) (csem (.asn i)) hsc) (csem (.arc i)) h1 h2 h3) k) Q) := by
  have hi := i.isLt
  have hO : O c (26 + i.val) = O c (27 + i.val) + tallyAt ((up (1 + i.val) c : Thread nD τ), csem (.arc i)) () Na := by
    have := O_step c (26 + i.val) (by omega)
    rw [payee_max] at this
    rw [this, show 26 + i.val + 1 = 27 + i.val from by omega]; rfl
  have hd₁ : false ∈ (Rd (F := F) m).duties ((c : Thread nD τ), csem (.asn i)) 0 := by
    rw [show ((c : Thread nD τ), csem (.asn i)) = kcell (c, .asn i) from rfl, duties_one m c (.asn i) (by intro h; cases h)]; exact Finset.mem_singleton_self _
  have hd₂ : false ∈ (Rd (F := F) m).duties ((up (1 + i.val) c : Thread nD τ), csem (.arc i)) 0 := by
    rw [show ((up (1 + i.val) c : Thread nD τ), csem (.arc i)) = kcell (up (1 + i.val) c, .arc i) from rfl,
      duties_one m (up (1 + i.val) c) (.arc i) (by intro h; cases h)]
    exact Finset.mem_singleton_self _
  unfold Core amEx amPts
  iintro ⟨⟨#HR, #HL, ⟨%W, HO⟩⟩, Hts, Htr, ⟨%fd, Hd⟩, Hs⟩ Hk
  iapply (Rounds.wp_send_pointsTo 𝒱₀ ER (Rd m) (c : Thread nD τ) none (c' := (up (1 + i.val) c : Thread nD τ)) (src := amM 3) (dst := amM i.castSucc)
    (sS := csem (.asn i)) (sem := csem (.arc i)) (q := amShare i) (fs := amC m c 3) (fd := fd) (κ₁ := K (c, .asn i)) (κ₂ := K (up (1 + i.val) c, .arc i))
    (d₁ := false) (d₂ := false) (r₁ := 0) (r₂ := 0) hd₁ hd₂
    () () Na (am_amount i.castSucc) (amount_eq m c (.asn i) 0 false) (amount_eq m (up (1 + i.val) c) (.arc i) 0 false) (O c (27 + i.val)) hO (W := W)
    (Entails.of_eq (payload_eq m c (.asn i) 0 false).symm)
    ((Entails.of_eq (landMax m i c fd)).trans (Entails.of_eq (payload_eq m (up (1 + i.val) c) (.arc i) 0 false).symm)))
    $$ [HO Hts Htr Hd Hs]
  · isplitr; · iapply (records_inv m K (c, .asn i)); iexact HR
    isplitr; · iapply (records_inv m K (up (1 + i.val) c, .arc i)); iexact HR
    isplitl [Hs]; · iexact Hs
    isplitl [Hd]; · iexact Hd
    isplitl [HO]; · iexact HO
    isplitl [Hts]; · iexact Hts
    isplitr; · iapply (records_reached m K (c, .asn i)); iexact HR
    isplitl [Htr]; · iexact Htr
    iapply (records_reached m K (up (1 + i.val) c, .arc i)); iexact HR
  iintro ⟨Hcr, HO⟩
  iapply Hk
  isplitl [HO]
  · isplitr; · iexact HR
    isplitr; · iexact HL
    iexists _; iexact HO
  iexact Hcr

/-- Issuing the `i`-th transfer of the maximum. -/
theorem step_max_send (i : Fin 3) (a w : ℕ) (ha : a = i.val)
    {src dst : Memref sig .tc .vmem S8x128 .f32} {n : Dev nD} {ss sr : SemLoc sig} {hsc h1 h2 h3} {k : PUnit → Prog (TpuEff nD τ sig (Elt F) Λ₀ .tc) α}
    (hsrc : src = amM 3) (hdst : dst = amM i.castSucc) (hn : n = up (1 + i.val) c) (hss : ss = csem (.asn i)) (hsr : sr = csem (.arc i))
    (h : iprop(Wd m K c (27 + a) w ∗ Am m c (a + 1) 0 0 ∗ R) ⊢ wpc c (k ⟨⟩) Q) :
    iprop(Wd m K c (26 + a) w ∗ Am m c a 0 0 ∗ R)
      ⊢ wpc c (.op (.enqueueDma src (.remote (Dev.tc n : Thread nD τ) dst ss hsc) sr h1 h2 h3) k) Q := by
  subst ha hsrc hdst hn hss hsr
  unfold Wd Am at h ⊢
  rw [fam_take (P := fun q : Fin 3 => i.val ≤ q.val) (P' := fun q : Fin 3 => i.val + 1 ≤ q.val) i (fun x => by rw [Fin.ext_iff]; omega) (by omega) (MaxToSend m c),
    show MaxToSend m c i = iprop(atPos ER (kcell (c, .asn i)) 0 ∅ 0 ∗ dutyTok ER (kcell (c, .asn i)) 0 false ∗ dutyTok ER (kcell (up (1 + i.val) c, .arc i)) 0 false
      ∗ amEx (up (1 + i.val) c) i.castSucc ∗ amPts m c 3 (amShare i)) from rfl]
  rw [fam_take (P := fun q : Fin 3 => q.val < i.val + 1 ∧ 0 ≤ q.val) (P' := fun q : Fin 3 => q.val < i.val ∧ 0 ≤ q.val) i (fun x => by rw [Fin.ext_iff]; omega) (by omega) (MaxInFlight c),
    show MaxInFlight c i = iprop(atPos ER (kcell (c, .asn i)) 0 ∅ 0 ∗ cred (tallyAt (kcell (c, .asn i)) () (units (.asn i)))) from rfl] at h
  iintro ⟨⟨HC, HS⟩, ⟨⟨⟨Hat, Hts, Htr, Hd, Hp⟩, HT⟩, HF, HA⟩, HRest⟩
  iapply (send_max m K c i) $$ [HC Hts Htr Hd Hp]
  · isplitl [HC]; · iexact HC
    isplitl [Hts]; · iexact Hts
    isplitl [Htr]; · iexact Htr
    isplitl [Hd] <;> iassumption
  iintro ⟨HC, Hcr⟩
  iapply h
  isplitl [HC HS]
  · isplitl [HC] <;> iassumption
  isplitr [HRest]
  · isplitl [HT]; · iexact HT
    isplitl [Hat Hcr HF]
    · isplitl [Hat Hcr]
      · isplitl [Hat] <;> iassumption
      iexact HF
    iexact HA
  iexact HRest

/-- Waiting for the `i`-th transfer of the maximum to have left. -/
theorem step_max_back (i : Fin 3) (b d w : ℕ) (hb : b = i.val)
    {sem : DmaSem sig} {src dst : Memref sig .tc .vmem S8x128 .f32} {h1 h2} {k : PUnit → Prog (TpuEff nD τ sig (Elt F) Λ₀ .tc) α}
    (hsem : SemLoc.dma sem = csem (.asn i)) (hcr : dst.view.dmaCredit = Na)
    (h : iprop(Wd m K c 29 w ∗ Am m c 3 (b + 1) d ∗ R) ⊢ wpc c (k ⟨⟩) Q) :
    iprop(Wd m K c 29 w ∗ Am m c 3 b d ∗ R) ⊢ wpc c (.op (.waitDma2 sem src dst h1 h2) k) Q := by
  subst hb
  have hi := i.isLt
  unfold Wd Am at h ⊢
  rw [fam_take (P := fun q : Fin 3 => q.val < 3 ∧ i.val ≤ q.val) (P' := fun q : Fin 3 => q.val < 3 ∧ i.val + 1 ≤ q.val) i (fun x => by rw [Fin.ext_iff]; omega) (by omega) (MaxInFlight c),
    show MaxInFlight c i = iprop(atPos ER (kcell (c, .asn i)) 0 ∅ 0 ∗ cred (tallyAt (kcell (c, .asn i)) () (units (.asn i)))) from rfl]
  rw [fam_take (P := fun q : Fin 3 => q.val < i.val + 1) (P' := fun q : Fin 3 => q.val < i.val) i (fun x => by rw [Fin.ext_iff]; omega) (by omega) (MaxBack m c),
    show MaxBack m c i = iprop(semVal (kcell (c, .asn i)) 0 ∗ amPts m c 3 (amShare i)) from rfl] at h
  iintro ⟨⟨HC, HS⟩, ⟨HT, ⟨⟨Hat, Hcr⟩, HF⟩, HB, HA⟩, HRest⟩
  iapply (wait_one m K c (.asn i) (by intro h; cases h) hsem hcr 29 (mayWait_end c _)) $$ [HC Hcr Hat]
  · isplitl [HC]; · iexact HC
    isplitl [Hcr] <;> iassumption
  unfold pay
  iintro ⟨HC, Hz, Hp⟩
  iapply h
  isplitl [HC HS]
  · isplitl [HC] <;> iassumption
  isplitr [HRest]
  · isplitl [HT]; · iexact HT
    isplitl [HF]; · iexact HF
    isplitl [Hz Hp HB]
    · isplitl [Hz Hp]
      · isplitl [Hz] <;> iassumption
      iexact HB
    iexact HA
  iexact HRest

/-- Waiting for the maximum of the device `i + 1` places back. -/
theorem step_max_recv (i : Fin 3) (b d w : ℕ) (hd : d = i.val)
    {sem : DmaSem sig} {src dst : Memref sig .tc .vmem S8x128 .f32} {h1 h2} {k : PUnit → Prog (TpuEff nD τ sig (Elt F) Λ₀ .tc) α}
    (hsem : SemLoc.dma sem = csem (.arc i)) (hcr : dst.view.dmaCredit = Na)
    (h : iprop(Wd m K c 29 w ∗ Am m c 3 b (d + 1) ∗ R) ⊢ wpc c (k ⟨⟩) Q) :
    iprop(Wd m K c 29 w ∗ Am m c 3 b d ∗ R) ⊢ wpc c (.op (.waitDma2 sem src dst h1 h2) k) Q := by
  subst hd
  unfold Wd Am at h ⊢
  rw [fam_take (P := fun q : Fin 3 => i.val ≤ q.val) (P' := fun q : Fin 3 => i.val + 1 ≤ q.val) i (fun x => by rw [Fin.ext_iff]; omega) (by omega) (MaxToRecv c),
    show MaxToRecv c i = iprop(atPos ER (kcell (c, .arc i)) 0 ∅ 0 ∗ cred (tallyAt (kcell (c, .arc i)) () (units (.arc i)))) from rfl]
  rw [fam_take (P := fun q : Fin 3 => q.val < i.val + 1) (P' := fun q : Fin 3 => q.val < i.val) i (fun x => by rw [Fin.ext_iff]; omega) (by omega) (MaxGot m c),
    show MaxGot m c i = iprop(semVal (kcell (c, .arc i)) 0 ∗ amPts m c i.castSucc fullShare) from rfl] at h
  iintro ⟨⟨HC, HS⟩, ⟨HT, HF, HB, ⟨⟨Hat, Hcr⟩, HR⟩, HG⟩, HRest⟩
  iapply (wait_one m K c (.arc i) (by intro h; cases h) hsem hcr 29 (mayWait_end c _)) $$ [HC Hcr Hat]
  · isplitl [HC]; · iexact HC
    isplitl [Hcr] <;> iassumption
  unfold pay
  iintro ⟨HC, Hz, Hp⟩
  iapply h
  isplitl [HC HS]
  · isplitl [HC] <;> iassumption
  isplitr [HRest]
  · isplitl [HT]; · iexact HT
    isplitl [HF]; · iexact HF
    isplitl [HB]; · iexact HB
    isplitl [HR]; · iexact HR
    isplitl [Hz Hp]
    · isplitl [Hz] <;> iassumption
    iexact HG
  iexact HRest

end Ops

end Cert.RingGemm

end
-- ==== Proof.Pieces.lean ====
/-
Where the kernel's own index arithmetic leads: the device each transfer names, the rows each block is stored at, and the
kernel's pieces run on this launch's buffers.
-/
module

public import proofs.«01_k».proof.Proof.Whole
public import proofs.«01_k».proof.Proof.Meet

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

/-- What a leaving copy adds on its semaphore. -/
theorem src_amount (p : Fin 24) : (srcM p).view.dmaCredit = Nc := by revert p; decide

/-! ## The devices addressed -/

theorem left_dev : ∀ c : Dev nD, (⟨k0_dev1 c, k0_dev1_lt c⟩ : Dev nD) = up 3 c := by decide
theorem right_dev : ∀ c : Dev nD, (⟨k0_dev2 c, k0_dev2_lt c⟩ : Dev nD) = up 1 c := by decide
theorem dev_0 : ∀ c : Dev nD, (⟨k0_dev3 c, k0_dev3_lt c⟩ : Dev nD) = peer 0 c := by decide
theorem dev_1 : ∀ c : Dev nD, (⟨k0_dev4 c, k0_dev4_lt c⟩ : Dev nD) = peer 1 c := by decide
theorem dev_2 : ∀ c : Dev nD, (⟨k0_dev5 c, k0_dev5_lt c⟩ : Dev nD) = peer 2 c := by decide
theorem dev_3 : ∀ c : Dev nD, (⟨k0_dev6 c, k0_dev6_lt c⟩ : Dev nD) = peer 3 c := by decide
theorem dev_4 : ∀ c : Dev nD, (⟨k0_dev7 c, k0_dev7_lt c⟩ : Dev nD) = peer 4 c := by decide
theorem dev_5 : ∀ c : Dev nD, (⟨k0_dev8 c, k0_dev8_lt c⟩ : Dev nD) = peer 5 c := by decide
theorem dev_6 : ∀ c : Dev nD, (⟨k0_dev9 c, k0_dev9_lt c⟩ : Dev nD) = peer 6 c := by decide
theorem dev_7 : ∀ c : Dev nD, (⟨k0_dev10 c, k0_dev10_lt c⟩ : Dev nD) = peer 7 c := by decide
theorem dev_8 : ∀ c : Dev nD, (⟨k0_dev11 c, k0_dev11_lt c⟩ : Dev nD) = peer 8 c := by decide
theorem dev_9 : ∀ c : Dev nD, (⟨k0_dev12 c, k0_dev12_lt c⟩ : Dev nD) = peer 9 c := by decide
theorem dev_10 : ∀ c : Dev nD, (⟨k0_dev13 c, k0_dev13_lt c⟩ : Dev nD) = peer 10 c := by decide
theorem dev_11 : ∀ c : Dev nD, (⟨k0_dev14 c, k0_dev14_lt c⟩ : Dev nD) = peer 11 c := by decide
theorem dev_12 : ∀ c : Dev nD, (⟨k0_dev15 c, k0_dev15_lt c⟩ : Dev nD) = peer 12 c := by decide
theorem dev_13 : ∀ c : Dev nD, (⟨k0_dev16 c, k0_dev16_lt c⟩ : Dev nD) = peer 13 c := by decide
theorem dev_14 : ∀ c : Dev nD, (⟨k0_dev17 c, k0_dev17_lt c⟩ : Dev nD) = peer 14 c := by decide
theorem dev_15 : ∀ c : Dev nD, (⟨k0_dev18 c, k0_dev18_lt c⟩ : Dev nD) = peer 15 c := by decide
theorem dev_16 : ∀ c : Dev nD, (⟨k0_dev19 c, k0_dev19_lt c⟩ : Dev nD) = peer 16 c := by decide
theorem dev_17 : ∀ c : Dev nD, (⟨k0_dev20 c, k0_dev20_lt c⟩ : Dev nD) = peer 17 c := by decide
theorem dev_18 : ∀ c : Dev nD, (⟨k0_dev21 c, k0_dev21_lt c⟩ : Dev nD) = peer 18 c := by decide
theorem dev_19 : ∀ c : Dev nD, (⟨k0_dev22 c, k0_dev22_lt c⟩ : Dev nD) = peer 19 c := by decide
theorem dev_20 : ∀ c : Dev nD, (⟨k0_dev23 c, k0_dev23_lt c⟩ : Dev nD) = peer 20 c := by decide
theorem dev_21 : ∀ c : Dev nD, (⟨k0_dev24 c, k0_dev24_lt c⟩ : Dev nD) = peer 21 c := by decide
theorem dev_22 : ∀ c : Dev nD, (⟨k0_dev25 c, k0_dev25_lt c⟩ : Dev nD) = peer 22 c := by decide
theorem dev_23 : ∀ c : Dev nD, (⟨k0_dev26 c, k0_dev26_lt c⟩ : Dev nD) = peer 23 c := by decide
theorem max_dev_0 : ∀ c : Dev nD, (⟨k0_dev27 c, k0_dev27_lt c⟩ : Dev nD) = up (1 + (0 : Fin 3).val) c := by decide
theorem max_dev_1 : ∀ c : Dev nD, (⟨k0_dev28 c, k0_dev28_lt c⟩ : Dev nD) = up (1 + (1 : Fin 3).val) c := by decide
theorem max_dev_2 : ∀ c : Dev nD, (⟨k0_dev29 c, k0_dev29_lt c⟩ : Dev nD) = up (1 + (2 : Fin 3).val) c := by decide

/-! ## The rows stored at -/

theorem own_rows : ∀ c : Dev nD, k0_off1 c = ![1024 * c.val, 0] := by decide
theorem rows_cw : ∀ (c : Dev nD) (a : Fin 2) (j : Fin 4), k0_off2 c (BitVec.ofNat 32 (1 + a.val)) (BitVec.ofNat 32 (128 * j.val))
    = ![128 * blk c (Fin.ofNat 24 (8 * a.val + 2 * j.val)), 0] := by decide
theorem rows_ccw : ∀ (c : Dev nD) (a : Fin 2) (j : Fin 4), k0_off3 c (BitVec.ofNat 32 (1 + a.val)) (BitVec.ofNat 32 (128 * j.val))
    = ![128 * blk c (Fin.ofNat 24 (8 * a.val + 2 * j.val + 1)), 0] := by decide
theorem rows_cw_far : ∀ (c : Dev nD) (j : Fin 4), k0_off4 c (BitVec.ofNat 32 (128 * j.val)) = ![128 * blk c (Fin.ofNat 24 (16 + 2 * j.val)), 0] := by decide
theorem rows_ccw_far : ∀ (c : Dev nD) (j : Fin 4), k0_off5 c (BitVec.ofNat 32 (128 * j.val)) = ![128 * blk c (Fin.ofNat 24 (16 + 2 * j.val + 1)), 0] := by decide

/-! ## Running a piece of the kernel on this launch's buffers -/

/-- A piece of the kernel on this launch's buffers. -/
abbrev on {β : Type _} (f : ∀ (x : Memref sig .tc .vmem S1024x4096 .bf16), x.IsWhole → ∀ (h : Memref sig .tc .hbm S4096x512 .f32), h.IsWhole →
    ∀ (o : Memref sig .tc .vmem S4096x512 .f32), o.IsWhole → ∀ (w : Memref sig .tc .vmem S4096x512 .bf16), w.IsWhole →
    ∀ (a : Memref sig .tc .vmem S12x128x4096 .bf16), a.IsWhole → ∀ (b : Memref sig .tc .vmem S12x128x4096 .bf16), b.IsWhole →
    ∀ (g : Memref sig .tc .vmem S4x8x128 .f32), g.IsWhole → DmaSems sig S_ → DmaSems sig S12 → DmaSems sig S12 → DmaSems sig S12 → DmaSems sig S12 →
    DmaSems sig S3 → DmaSems sig S3 → β) : β :=
  f (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scratch10

theorem step_ret {α : Type} {P : sProp (MT nD τ sig Unit (Elt F) ℕ UU ℕ)} {Q : α → sProp (MT nD τ sig Unit (Elt F) ℕ UU ℕ)} {a : α} (h : P ⊢ Q a) :
    P ⊢ wpc c (.ret a) Q := by
  unfold wpc
  rw [wp_ret]
  iintro HP
  imodintro
  iapply h; iexact HP

/-- One piece, then the rest. -/
theorem step_seq {α β : Type} {P : sProp (MT nD τ sig Unit (Elt F) ℕ UU ℕ)} {Q : β → sProp (MT nD τ sig Unit (Elt F) ℕ UU ℕ)}
    {p : Prog (TpuEff nD τ sig (Elt F) Λ₀ .tc) α} {k : α → Prog (TpuEff nD τ sig (Elt F) Λ₀ .tc) β}
    (h : P ⊢ wpc c p fun a => wpc c (k a) Q) : P ⊢ wpc c (p >>= k) Q := by
  unfold wpc at h ⊢
  rw [wp_bind]; exact h

end Cert.RingGemm

end
-- ==== Proof.Early.lean ====
/-
The kernel's first pieces: the barrier, the weights' fetch, the eight chunks sent, the device's own product.
-/
module

public import proofs.«01_k».proof.Proof.Pieces

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

section Ops
variable {A B C R : sProp (MT nD τ sig Unit (Elt F) ℕ UU ℕ)}

/-- What the barrier takes: its two duties with what they hand over, and its own arrival. -/
def ToMeet (c : Dev nD) : sProp 𝕄 :=
  iprop((dutyTok ER (kcell (up 3 c, .bar)) 0 false ∗ pay m (up 3 c) false .bar)
    ∗ (dutyTok ER (kcell (up 1 c, .bar)) 0 true ∗ pay m (up 1 c) true .bar)
    ∗ (cred (tallyAt (kcell (c, .bar)) () 2) ∗ atPos ER (kcell (c, .bar)) 0 ∅ 0))

theorem part1 {Q : (Σ' (d0 : Dev nD) (v2 : BitVec 32) (v14 : BitVec 32), BitVec 32) → sProp (MT nD τ sig Unit (Elt F) ℕ UU ℕ)}
    (h : ∀ a b d, iprop(Core m K c 2 ∗ (semVal (kcell (c, .bar)) 0 ∗ pay m c false .bar ∗ pay m c true .bar) ∗ R) ⊢ Q ⟨c, a, b, d⟩) :
    iprop(Core m K c 0 ∗ ToMeet m c ∗ R) ⊢ wpc c (on (k0_part1 (F := F))) Q := by
  rw [k0_part1_eq_skeleton]; unfold k0_part1_skel
  simp only [on, semSignalWord, semWaitWord, Prog.lift, Prog.bind_op, Prog.bind_ret, Prog.pure_eq_ret, wp_deviceId, left_dev, right_dev]
  unfold ToMeet
  refine (show _ ⊢ iprop(Core m K c 0 ∗ (dutyTok ER (kcell (up 3 c, .bar)) 0 false ∗ pay m (up 3 c) false .bar)
      ∗ ((dutyTok ER (kcell (up 1 c, .bar)) 0 true ∗ pay m (up 1 c) true .bar)
        ∗ ((cred (tallyAt (kcell (c, .bar)) () 2) ∗ atPos ER (kcell (c, .bar)) 0 ∅ 0) ∗ R))) from by
    iintro ⟨H, ⟨H1, H2, H3⟩, H4⟩
    iframe).trans ?_
  refine step_signal m K c false 0 (by omega) (n := up 3 c) rfl ?_
  refine step_signal m K c true 1 (by omega) (n := up 1 c) rfl ?_
  refine step_meet m K c ?_
  exact step_ret c (h _ _ _)

theorem part2 (v14 v25 : BitVec 32) {Q : PUnit → sProp (MT nD τ sig Unit (Elt F) ℕ UU ℕ)}
    (h : iprop(St m K c 5 3 0 0 ∗ cred (tallyAt (kcell (c, .wsm)) () (units .wsm)) ∗ R) ⊢ Q ⟨⟩) :
    iprop(St m K c 2 0 0 0 ∗ (dutyTok ER (kcell (c, .wsm)) 0 false
        ∗ (∃ f : Buf (Elt F) (oM.view.loc (c : Thread nD τ)), oM.view.loc (c : Thread nD τ) ↦[oM.view.set]{fullShare} f)
        ∗ (hM.view.loc (c : Thread nD τ) ↦[hM.view.set]{fullShare} arrC m c)) ∗ R) ⊢ wpc c (on (k0_part2 (F := F)) c v14 v25) Q := by
  rw [k0_part2_eq_skeleton]; unfold k0_part2_skel
  simp only [on, Prog.lift, Prog.bind_op, Prog.bind_ret, Prog.pure_eq_ret]
  refine step_fetch m K c 2 0 0 0 rfl ?_
  refine step_send m K c 0 0 0 (by decide) (by decide) rfl rfl (dev_0 c) rfl rfl ?_
  refine step_send m K c 1 1 0 (by decide) (by decide) rfl rfl (dev_1 c) rfl rfl ?_
  refine step_send m K c 2 2 0 (by decide) (by decide) rfl rfl (dev_2 c) rfl rfl ?_
  exact step_ret c h

theorem part3 (v14 v25 : BitVec 32) {Q : BitVec 32 → sProp (MT nD τ sig Unit (Elt F) ℕ UU ℕ)}
    (h : ∀ a, iprop(St m K c 8 6 0 0 ∗ R) ⊢ Q a) :
    iprop(St m K c 5 3 0 0 ∗ R) ⊢ wpc c (on (k0_part3 (F := F)) c v14 v25) Q := by
  rw [k0_part3_eq_skeleton]; unfold k0_part3_skel
  simp only [on, Prog.lift, Prog.bind_op, Prog.bind_ret, Prog.pure_eq_ret]
  refine step_send m K c 3 3 0 (by decide) (by decide) rfl rfl (dev_3 c) rfl rfl ?_
  refine step_send m K c 4 4 0 (by decide) (by decide) rfl rfl (dev_4 c) rfl rfl ?_
  refine step_send m K c 5 5 0 (by decide) (by decide) rfl rfl (dev_5 c) rfl rfl ?_
  exact step_ret c (h _)

theorem part4 (v2 v14 v85 : BitVec 32) {Q : FVec F S1024x512 .f32 → sProp (MT nD τ sig Unit (Elt F) ℕ UU ℕ)}
    (h : iprop(St m K c 10 8 0 0 ∗ wArrived m c ∗ Wt m c ∗ Xk m c ∗ semVal (kcell (c, .wsm)) 0 ∗ R) ⊢ Q (ownV (xV m) (hV m) c)) :
    iprop(St m K c 8 6 0 0 ∗ (cred (tallyAt (kcell (c, .wsm)) () (units .wsm)) ∗ atPos ER (kcell (c, .wsm)) 0 ∅ 0) ∗ WtEx c ∗ Xk m c ∗ R)
      ⊢ wpc c (on (k0_part4 (F := F)) c v2 v14 v85) Q := by
  rw [k0_part4_eq_skeleton]; unfold k0_part4_skel
  simp only [on, Prog.lift, Prog.bind_op, Prog.bind_ret, Prog.pure_eq_ret]
  refine step_send m K c 6 6 0 (by decide) (by decide) rfl rfl (dev_6 c) rfl rfl ?_
  refine step_send m K c 7 7 0 (by decide) (by decide) rfl rfl (dev_7 c) rfl rfl ?_
  refine step_arrive m K c _ _ _ _ rfl ?_
  refine (show _ ⊢ iprop(St m K c 10 8 0 0 ∗ wArrived m c ∗ WtEx c ∗ Xk m c ∗ semVal (kcell (c, .wsm)) 0 ∗ R) from by
    iintro ⟨H, H1, H2, H3, H4, H5⟩
    iframe).trans ?_
  refine step_read_arrived m c ?_
  refine step_peek_w c fun _ => ?_
  refine step_narrow m c rfl ?_
  refine step_x m c ?_
  refine step_weights m c zero2 ?_
  exact step_ret c h

end Ops

end Cert.RingGemm

end
-- ==== Proof.Relay.lean ====
/-
The kernel's pieces that forward the first eight copies, between them the device's own rows of the product.
-/
module

public import proofs.«01_k».proof.Proof.Pieces

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

section Ops
variable {R : sProp (MT nD τ sig Unit (Elt F) ℕ UU ℕ)}

theorem part5 (v14 v25 : BitVec 32) {Q : F .f32 → sProp (MT nD τ sig Unit (Elt F) ℕ UU ℕ)}
    (h : iprop(St m K c 11 9 1 0 ∗ Out m c 1 ∗ Wt m c ∗ R) ⊢ Q (runMax (xV m) (hV m) c 0)) :
    iprop(St m K c 10 8 0 0 ∗ Out m c 0 ∗ Wt m c ∗ R)
      ⊢ wpc c (on (k0_part5 (F := F)) c v14 v25 (ownV (xV m) (hV m) c)) Q := by
  rw [k0_part5_eq_skeleton]; unfold k0_part5_skel
  simp only [on, Prog.lift, Prog.bind_op, Prog.bind_ret, Prog.pure_eq_ret]
  refine step_peek m c _ (fun _ => ?_)
  refine step_own m c (own_rows c) rfl ?_
  refine step_recv m K c 0 10 8 0 0 rfl (by decide) (by decide) rfl (slot_amount 0) ?_
  refine step_send m K c 8 8 1 (by decide) (by decide) rfl rfl (dev_8 c) rfl rfl ?_
  exact step_ret c h

theorem part6 (v14 v25 : BitVec 32) {Q : PUnit → sProp (MT nD τ sig Unit (Elt F) ℕ UU ℕ)}
    (h : iprop(St m K c 12 10 3 0 ∗ Out m c 1 ∗ Wt m c ∗ R) ⊢ Q ⟨⟩) :
    iprop(St m K c 11 9 1 0 ∗ Out m c 1 ∗ Wt m c ∗ R)
      ⊢ wpc c (on (k0_part6 (F := F)) c v14 v25) Q := by
  rw [k0_part6_eq_skeleton]; unfold k0_part6_skel
  simp only [on, Prog.lift, Prog.bind_op, Prog.bind_ret, Prog.pure_eq_ret]
  refine step_recv m K c 1 11 9 1 0 rfl (by decide) (by decide) rfl (slot_amount 1) ?_
  refine step_send m K c 9 9 2 (by decide) (by decide) rfl rfl (dev_9 c) rfl rfl ?_
  refine step_recv m K c 2 12 10 2 0 rfl (by decide) (by decide) rfl (slot_amount 2) ?_
  exact step_ret c h

theorem part7 (v14 v25 : BitVec 32) {Q : PUnit → sProp (MT nD τ sig Unit (Elt F) ℕ UU ℕ)}
    (h : iprop(St m K c 14 12 5 0 ∗ Out m c 1 ∗ Wt m c ∗ R) ⊢ Q ⟨⟩) :
    iprop(St m K c 12 10 3 0 ∗ Out m c 1 ∗ Wt m c ∗ R)
      ⊢ wpc c (on (k0_part7 (F := F)) c v14 v25) Q := by
  rw [k0_part7_eq_skeleton]; unfold k0_part7_skel
  simp only [on, Prog.lift, Prog.bind_op, Prog.bind_ret, Prog.pure_eq_ret]
  refine step_send m K c 10 10 3 (by decide) (by decide) rfl rfl (dev_10 c) rfl rfl ?_
  refine step_recv m K c 3 13 11 3 0 rfl (by decide) (by decide) rfl (slot_amount 3) ?_
  refine step_send m K c 11 11 4 (by decide) (by decide) rfl rfl (dev_11 c) rfl rfl ?_
  refine step_recv m K c 4 14 12 4 0 rfl (by decide) (by decide) rfl (slot_amount 4) ?_
  exact step_ret c h

theorem part8 (v14 v25 : BitVec 32) {Q : BitVec 32 → sProp (MT nD τ sig Unit (Elt F) ℕ UU ℕ)}
    (h : ∀ a, iprop(St m K c 16 14 6 0 ∗ Out m c 1 ∗ Wt m c ∗ R) ⊢ Q a) :
    iprop(St m K c 14 12 5 0 ∗ Out m c 1 ∗ Wt m c ∗ R)
      ⊢ wpc c (on (k0_part8 (F := F)) c v14 v25) Q := by
  rw [k0_part8_eq_skeleton]; unfold k0_part8_skel
  simp only [on, Prog.lift, Prog.bind_op, Prog.bind_ret, Prog.pure_eq_ret]
  refine step_send m K c 12 12 5 (by decide) (by decide) rfl rfl (dev_12 c) rfl rfl ?_
  refine step_recv m K c 5 15 13 5 0 rfl (by decide) (by decide) rfl (slot_amount 5) ?_
  refine step_send m K c 13 13 6 (by decide) (by decide) rfl rfl (dev_13 c) rfl rfl ?_
  exact step_ret c (h _)

theorem part9 (v14 v25 c1_i32_209 : BitVec 32) {Q : PUnit → sProp (MT nD τ sig Unit (Elt F) ℕ UU ℕ)}
    (h : iprop(St m K c 17 15 8 0 ∗ Out m c 1 ∗ Wt m c ∗ R) ⊢ Q ⟨⟩) :
    iprop(St m K c 16 14 6 0 ∗ Out m c 1 ∗ Wt m c ∗ R)
      ⊢ wpc c (on (k0_part9 (F := F)) c v14 v25 c1_i32_209) Q := by
  rw [k0_part9_eq_skeleton]; unfold k0_part9_skel
  simp only [on, Prog.lift, Prog.bind_op, Prog.bind_ret, Prog.pure_eq_ret]
  refine step_recv m K c 6 16 14 6 0 rfl (by decide) (by decide) rfl (slot_amount 6) ?_
  refine step_send m K c 14 14 7 (by decide) (by decide) rfl rfl (dev_14 c) rfl rfl ?_
  refine step_recv m K c 7 17 15 7 0 rfl (by decide) (by decide) rfl (slot_amount 7) ?_
  exact step_ret c h

theorem part10 (v2 : BitVec 32) {Q : (Σ' (v269 : BitVec 32) (v280 : BitVec 32) (v282 : FVec F S128x4096 .bf16), BitVec 32) → sProp (MT nD τ sig Unit (Elt F) ℕ UU ℕ)}
    (h : ∀ a b d, iprop(St m K c 18 16 8 0 ∗ Out m c 1 ∗ Wt m c ∗ R) ⊢ Q ⟨a, b, (k0_pay5 (slabV (xV m) c 0)), d⟩) :
    iprop(St m K c 17 15 8 0 ∗ Out m c 1 ∗ Wt m c ∗ R)
      ⊢ wpc c (on (k0_part10 (F := F)) c v2) Q := by
  rw [k0_part10_eq_skeleton]; unfold k0_part10_skel
  simp only [on, Prog.lift, Prog.bind_op, Prog.bind_ret, Prog.pure_eq_ret]
  refine step_send m K c 15 15 8 (by decide) (by decide) rfl rfl (dev_15 c) rfl rfl ?_
  refine step_slab m K c 0 _ _ _ _ (by decide) rfl rfl ?_
  exact step_ret c (h _ _ _)

end Ops

end Cert.RingGemm

end
-- ==== Proof.Near.lean ====
/-
The kernel's pieces that multiply the neighbours' copies and send the last eight on.
-/
module

public import proofs.«01_k».proof.Proof.Pieces

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

section Ops
variable {R : sProp (MT nD τ sig Unit (Elt F) ℕ UU ℕ)}

theorem part11 (v269 v280 v284 : BitVec 32) {Q : (Σ' (v311 : F .f32) (v315 : BitVec 32), FVec F S128x512 .f32) → sProp (MT nD τ sig Unit (Elt F) ℕ UU ℕ)}
    (h : ∀ a, iprop(St m K c 18 16 8 0 ∗ Out m c 3 ∗ Wt m c ∗ R) ⊢ Q ⟨(runMax (xV m) (hV m) c 2), a, (k0_pay9 (slabV (xV m) c 2) (weightV (hV m) c))⟩) :
    iprop(St m K c 18 16 8 0 ∗ Out m c 1 ∗ Wt m c ∗ R)
      ⊢ wpc c (on (k0_part11 (F := F)) c (runMax (xV m) (hV m) c 0) v269 v280 (k0_pay5 (slabV (xV m) c 0)) v284) Q := by
  rw [k0_part11_eq_skeleton]; unfold k0_part11_skel
  simp only [on, Prog.lift, Prog.bind_op, Prog.bind_ret, Prog.pure_eq_ret]
  refine step_weights m c zero2 ?_
  refine step_peek m c _ (fun _ => ?_)
  refine step_tile m c 0 _ rfl (rows_cw c 0 0) rfl ?_
  refine step_slab m K c 1 _ _ _ _ (by decide) rfl rfl ?_
  refine step_weights m c zero2 ?_
  refine step_peek m c _ (fun _ => ?_)
  refine step_tile m c 1 _ rfl (rows_ccw c 0 0) rfl ?_
  refine step_slab m K c 2 _ _ _ _ (by decide) rfl rfl ?_
  refine step_weights m c zero2 ?_
  exact step_ret c (h _)

theorem part12 (v269 v280 v315 : BitVec 32) {Q : (Σ' (v342 : F .f32), FVec F S128x512 .f32) → sProp (MT nD τ sig Unit (Elt F) ℕ UU ℕ)}
    (h : iprop(St m K c 18 16 8 0 ∗ Out m c 5 ∗ Wt m c ∗ R) ⊢ Q ⟨(runMax (xV m) (hV m) c 4), (tileV (xV m) (hV m) c 4)⟩) :
    iprop(St m K c 18 16 8 0 ∗ Out m c 3 ∗ Wt m c ∗ R)
      ⊢ wpc c (on (k0_part12 (F := F)) c v269 v280 (runMax (xV m) (hV m) c 2) v315 (k0_pay9 (slabV (xV m) c 2) (weightV (hV m) c))) Q := by
  rw [k0_part12_eq_skeleton]; unfold k0_part12_skel
  simp only [on, Prog.lift, Prog.bind_op, Prog.bind_ret, Prog.pure_eq_ret]
  refine step_peek m c _ (fun _ => ?_)
  refine step_tile m c 2 _ rfl (rows_cw c 0 1) rfl ?_
  refine step_slab m K c 3 _ _ _ _ (by decide) rfl rfl ?_
  refine step_weights m c zero2 ?_
  refine step_peek m c _ (fun _ => ?_)
  refine step_tile m c 3 _ rfl (rows_ccw c 0 1) rfl ?_
  refine step_slab m K c 4 _ _ _ _ (by decide) rfl rfl ?_
  refine step_weights m c zero2 ?_
  exact step_ret c h

theorem part13 (v269 v280 : BitVec 32) {Q : (Σ' (v373 : F .f32), FVec F S1x128x512 .f32) → sProp (MT nD τ sig Unit (Elt F) ℕ UU ℕ)}
    (h : iprop(St m K c 18 16 8 0 ∗ Out m c 8 ∗ Wt m c ∗ R) ⊢ Q ⟨(runMax (xV m) (hV m) c 6), (k0_pay17 (slabV (xV m) c 6) (weightV (hV m) c))⟩) :
    iprop(St m K c 18 16 8 0 ∗ Out m c 5 ∗ Wt m c ∗ R)
      ⊢ wpc c (on (k0_part13 (F := F)) c v269 v280 (runMax (xV m) (hV m) c 4) (tileV (xV m) (hV m) c 4)) Q := by
  rw [k0_part13_eq_skeleton]; unfold k0_part13_skel
  simp only [on, Prog.lift, Prog.bind_op, Prog.bind_ret, Prog.pure_eq_ret]
  refine step_peek m c _ (fun _ => ?_)
  refine step_tile m c 4 _ rfl (rows_cw c 0 2) rfl ?_
  refine step_slab m K c 5 _ _ _ _ (by decide) rfl rfl ?_
  refine step_weights m c zero2 ?_
  refine step_peek m c _ (fun _ => ?_)
  refine step_tile m c 5 _ rfl (rows_ccw c 0 2) rfl ?_
  refine step_slab m K c 6 _ _ _ _ (by decide) rfl rfl ?_
  refine step_weights m c zero2 ?_
  refine step_peek m c _ (fun _ => ?_)
  refine step_tile m c 6 _ rfl (rows_cw c 0 3) rfl ?_
  exact step_ret c h

theorem part14 (v25 v280 : BitVec 32) {Q : (Σ' (v404 : F .f32) (v413 : BitVec 32), BitVec 32) → sProp (MT nD τ sig Unit (Elt F) ℕ UU ℕ)}
    (h : ∀ a b, iprop(St m K c 18 16 9 0 ∗ Out m c 9 ∗ Wt m c ∗ R) ⊢ Q ⟨(runMax (xV m) (hV m) c 8), a, b⟩) :
    iprop(St m K c 18 16 8 0 ∗ Out m c 8 ∗ Wt m c ∗ R)
      ⊢ wpc c (on (k0_part14 (F := F)) c v25 v280 (runMax (xV m) (hV m) c 6) (k0_pay17 (slabV (xV m) c 6) (weightV (hV m) c))) Q := by
  rw [k0_part14_eq_skeleton]; unfold k0_part14_skel
  simp only [on, Prog.lift, Prog.bind_op, Prog.bind_ret, Prog.pure_eq_ret]
  refine step_slab m K c 7 _ _ _ _ (by decide) rfl rfl ?_
  refine step_weights m c zero2 ?_
  refine step_peek m c _ (fun _ => ?_)
  refine step_tile m c 7 _ rfl (rows_ccw c 0 3) rfl ?_
  refine step_recv m K c 8 18 16 8 0 rfl (by decide) (by decide) rfl (slot_amount 8) ?_
  exact step_ret c (h _ _)

theorem part15 (v14 v25 v413 c0_i32_361 : BitVec 32) {Q : BitVec 32 → sProp (MT nD τ sig Unit (Elt F) ℕ UU ℕ)}
    (h : ∀ a, iprop(St m K c 20 18 10 0 ∗ Out m c 9 ∗ Wt m c ∗ R) ⊢ Q a) :
    iprop(St m K c 18 16 9 0 ∗ Out m c 9 ∗ Wt m c ∗ R)
      ⊢ wpc c (on (k0_part15 (F := F)) c v14 v25 v413 c0_i32_361) Q := by
  rw [k0_part15_eq_skeleton]; unfold k0_part15_skel
  simp only [on, Prog.lift, Prog.bind_op, Prog.bind_ret, Prog.pure_eq_ret]
  refine step_send m K c 16 16 9 (by decide) (by decide) rfl rfl (dev_16 c) rfl rfl ?_
  refine step_recv m K c 9 19 17 9 0 rfl (by decide) (by decide) rfl (slot_amount 9) ?_
  refine step_send m K c 17 17 10 (by decide) (by decide) rfl rfl (dev_17 c) rfl rfl ?_
  exact step_ret c (h _)

theorem part16 (v14 v25 v441 : BitVec 32) {Q : (Σ' (v467 : BitVec 32), BitVec 32) → sProp (MT nD τ sig Unit (Elt F) ℕ UU ℕ)}
    (h : ∀ a b, iprop(St m K c 21 19 12 0 ∗ Out m c 9 ∗ Wt m c ∗ R) ⊢ Q ⟨a, b⟩) :
    iprop(St m K c 20 18 10 0 ∗ Out m c 9 ∗ Wt m c ∗ R)
      ⊢ wpc c (on (k0_part16 (F := F)) c v14 v25 v441) Q := by
  rw [k0_part16_eq_skeleton]; unfold k0_part16_skel
  simp only [on, Prog.lift, Prog.bind_op, Prog.bind_ret, Prog.pure_eq_ret]
  refine step_recv m K c 10 20 18 10 0 rfl (by decide) (by decide) rfl (slot_amount 10) ?_
  refine step_send m K c 18 18 11 (by decide) (by decide) rfl rfl (dev_18 c) rfl rfl ?_
  refine step_recv m K c 11 21 19 11 0 rfl (by decide) (by decide) rfl (slot_amount 11) ?_
  exact step_ret c (h _ _)

theorem part17 (v14 v25 v467 c0_i32_420 : BitVec 32) {Q : BitVec 32 → sProp (MT nD τ sig Unit (Elt F) ℕ UU ℕ)}
    (h : ∀ a, iprop(St m K c 23 21 13 0 ∗ Out m c 9 ∗ Wt m c ∗ R) ⊢ Q a) :
    iprop(St m K c 21 19 12 0 ∗ Out m c 9 ∗ Wt m c ∗ R)
      ⊢ wpc c (on (k0_part17 (F := F)) c v14 v25 v467 c0_i32_420) Q := by
  rw [k0_part17_eq_skeleton]; unfold k0_part17_skel
  simp only [on, Prog.lift, Prog.bind_op, Prog.bind_ret, Prog.pure_eq_ret]
  refine step_send m K c 19 19 12 (by decide) (by decide) rfl rfl (dev_19 c) rfl rfl ?_
  refine step_recv m K c 12 22 20 12 0 rfl (by decide) (by decide) rfl (slot_amount 12) ?_
  refine step_send m K c 20 20 13 (by decide) (by decide) rfl rfl (dev_20 c) rfl rfl ?_
  exact step_ret c (h _)

theorem part18 (v14 v25 v495 : BitVec 32) {Q : (Σ' (v521 : BitVec 32), BitVec 32) → sProp (MT nD τ sig Unit (Elt F) ℕ UU ℕ)}
    (h : ∀ a b, iprop(St m K c 24 22 15 0 ∗ Out m c 9 ∗ Wt m c ∗ R) ⊢ Q ⟨a, b⟩) :
    iprop(St m K c 23 21 13 0 ∗ Out m c 9 ∗ Wt m c ∗ R)
      ⊢ wpc c (on (k0_part18 (F := F)) c v14 v25 v495) Q := by
  rw [k0_part18_eq_skeleton]; unfold k0_part18_skel
  simp only [on, Prog.lift, Prog.bind_op, Prog.bind_ret, Prog.pure_eq_ret]
  refine step_recv m K c 13 23 21 13 0 rfl (by decide) (by decide) rfl (slot_amount 13) ?_
  refine step_send m K c 21 21 14 (by decide) (by decide) rfl rfl (dev_21 c) rfl rfl ?_
  refine step_recv m K c 14 24 22 14 0 rfl (by decide) (by decide) rfl (slot_amount 14) ?_
  exact step_ret c (h _ _)

theorem part19 (v2 v14 v521 c0_i32_478 : BitVec 32) {Q : (Σ' (v550 : BitVec 32) (c4_i32_505 : BitVec 32), BitVec 32) → sProp (MT nD τ sig Unit (Elt F) ℕ UU ℕ)}
    (h : ∀ a b d, iprop(St m K c 26 24 16 0 ∗ Out m c 9 ∗ Wt m c ∗ R) ⊢ Q ⟨a, b, d⟩) :
    iprop(St m K c 24 22 15 0 ∗ Out m c 9 ∗ Wt m c ∗ R)
      ⊢ wpc c (on (k0_part19 (F := F)) c v2 v14 v521 c0_i32_478) Q := by
  rw [k0_part19_eq_skeleton]; unfold k0_part19_skel
  simp only [on, Prog.lift, Prog.bind_op, Prog.bind_ret, Prog.pure_eq_ret]
  refine step_send m K c 22 22 15 (by decide) (by decide) rfl rfl (dev_22 c) rfl rfl ?_
  refine step_recv m K c 15 25 23 15 0 rfl (by decide) (by decide) rfl (slot_amount 15) ?_
  refine step_send m K c 23 23 16 (by decide) (by decide) rfl rfl (dev_23 c) rfl rfl ?_
  exact step_ret c (h _ _ _)

end Ops

end Cert.RingGemm

end
-- ==== Proof.Far.lean ====
/-
The kernel's pieces that multiply the copies from two and three places away, up to the device's own maximum.
-/
module

public import proofs.«01_k».proof.Proof.Pieces

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

section Ops
variable {R : sProp (MT nD τ sig Unit (Elt F) ℕ UU ℕ)}

theorem part20 (v2 v550 c4_i32_505 c0_i32_506 : BitVec 32) {Q : (Σ' (v560 : BitVec 32) (v571 : BitVec 32), F .f32) → sProp (MT nD τ sig Unit (Elt F) ℕ UU ℕ)}
    (h : ∀ a b, iprop(St m K c 26 24 16 0 ∗ Out m c 10 ∗ Wt m c ∗ R) ⊢ Q ⟨a, b, (runMax (xV m) (hV m) c 9)⟩) :
    iprop(St m K c 26 24 16 0 ∗ Out m c 9 ∗ Wt m c ∗ R)
      ⊢ wpc c (on (k0_part20 (F := F)) c v2 (runMax (xV m) (hV m) c 8) v550 c4_i32_505 c0_i32_506) Q := by
  rw [k0_part20_eq_skeleton]; unfold k0_part20_skel
  simp only [on, Prog.lift, Prog.bind_op, Prog.bind_ret, Prog.pure_eq_ret]
  refine step_slab m K c 8 _ _ _ _ (by decide) rfl rfl ?_
  refine step_weights m c zero2 ?_
  refine step_peek m c _ (fun _ => ?_)
  refine step_tile m c 8 _ rfl (rows_cw c 1 0) rfl ?_
  exact step_ret c (h _ _)

theorem part21 (v560 v571 : BitVec 32) {Q : (Σ' (v617 : F .f32), FVec F S128x4096 .bf16) → sProp (MT nD τ sig Unit (Elt F) ℕ UU ℕ)}
    (h : iprop(St m K c 26 24 16 0 ∗ Out m c 12 ∗ Wt m c ∗ R) ⊢ Q ⟨(runMax (xV m) (hV m) c 11), (k0_pay25 (slabV (xV m) c 11))⟩) :
    iprop(St m K c 26 24 16 0 ∗ Out m c 10 ∗ Wt m c ∗ R)
      ⊢ wpc c (on (k0_part21 (F := F)) c v560 v571 (runMax (xV m) (hV m) c 9)) Q := by
  rw [k0_part21_eq_skeleton]; unfold k0_part21_skel
  simp only [on, Prog.lift, Prog.bind_op, Prog.bind_ret, Prog.pure_eq_ret]
  refine step_slab m K c 9 _ _ _ _ (by decide) rfl rfl ?_
  refine step_weights m c zero2 ?_
  refine step_peek m c _ (fun _ => ?_)
  refine step_tile m c 9 _ rfl (rows_ccw c 1 0) rfl ?_
  refine step_slab m K c 10 _ _ _ _ (by decide) rfl rfl ?_
  refine step_weights m c zero2 ?_
  refine step_peek m c _ (fun _ => ?_)
  refine step_tile m c 10 _ rfl (rows_cw c 1 1) rfl ?_
  refine step_slab m K c 11 _ _ _ _ (by decide) rfl rfl ?_
  exact step_ret c h

theorem part22 (v560 v571 : BitVec 32) {Q : (Σ' (v648 : F .f32) (v650 : FVec F S128x4096 .bf16), BitVec 32) → sProp (MT nD τ sig Unit (Elt F) ℕ UU ℕ)}
    (h : ∀ a, iprop(St m K c 26 24 16 0 ∗ Out m c 14 ∗ Wt m c ∗ R) ⊢ Q ⟨(runMax (xV m) (hV m) c 13), (k0_pay29 (slabV (xV m) c 13)), a⟩) :
    iprop(St m K c 26 24 16 0 ∗ Out m c 12 ∗ Wt m c ∗ R)
      ⊢ wpc c (on (k0_part22 (F := F)) c v560 v571 (runMax (xV m) (hV m) c 11) (k0_pay25 (slabV (xV m) c 11))) Q := by
  rw [k0_part22_eq_skeleton]; unfold k0_part22_skel
  simp only [on, Prog.lift, Prog.bind_op, Prog.bind_ret, Prog.pure_eq_ret]
  refine step_weights m c zero2 ?_
  refine step_peek m c _ (fun _ => ?_)
  refine step_tile m c 11 _ rfl (rows_ccw c 1 1) rfl ?_
  refine step_slab m K c 12 _ _ _ _ (by decide) rfl rfl ?_
  refine step_weights m c zero2 ?_
  refine step_peek m c _ (fun _ => ?_)
  refine step_tile m c 12 _ rfl (rows_cw c 1 2) rfl ?_
  refine step_slab m K c 13 _ _ _ _ (by decide) rfl rfl ?_
  exact step_ret c (h _)

theorem part23 (v560 v571 v652 : BitVec 32) {Q : (Σ' (v679 : F .f32) (v681 : FVec F S128x4096 .bf16), BitVec 32) → sProp (MT nD τ sig Unit (Elt F) ℕ UU ℕ)}
    (h : ∀ a, iprop(St m K c 26 24 16 0 ∗ Out m c 16 ∗ Wt m c ∗ R) ⊢ Q ⟨(runMax (xV m) (hV m) c 15), (k0_pay33 (slabV (xV m) c 15)), a⟩) :
    iprop(St m K c 26 24 16 0 ∗ Out m c 14 ∗ Wt m c ∗ R)
      ⊢ wpc c (on (k0_part23 (F := F)) c v560 v571 (runMax (xV m) (hV m) c 13) (k0_pay29 (slabV (xV m) c 13)) v652) Q := by
  rw [k0_part23_eq_skeleton]; unfold k0_part23_skel
  simp only [on, Prog.lift, Prog.bind_op, Prog.bind_ret, Prog.pure_eq_ret]
  refine step_weights m c zero2 ?_
  refine step_peek m c _ (fun _ => ?_)
  refine step_tile m c 13 _ rfl (rows_ccw c 1 2) rfl ?_
  refine step_slab m K c 14 _ _ _ _ (by decide) rfl rfl ?_
  refine step_weights m c zero2 ?_
  refine step_peek m c _ (fun _ => ?_)
  refine step_tile m c 14 _ rfl (rows_cw c 1 3) rfl ?_
  refine step_slab m K c 15 _ _ _ _ (by decide) rfl rfl ?_
  exact step_ret c (h _)

theorem part24 (v2 v25 v684 : BitVec 32) {Q : (Σ' (v695 : F .f32) (v706 : BitVec 32) (v716 : FVec F S128x4096 .bf16), BitVec 32) → sProp (MT nD τ sig Unit (Elt F) ℕ UU ℕ)}
    (h : ∀ a b, iprop(St m K c 26 24 17 0 ∗ Out m c 17 ∗ Wt m c ∗ R) ⊢ Q ⟨(runMax (xV m) (hV m) c 16), a, (k0_pay36 (slabV (xV m) c 16)), b⟩) :
    iprop(St m K c 26 24 16 0 ∗ Out m c 16 ∗ Wt m c ∗ R)
      ⊢ wpc c (on (k0_part24 (F := F)) c v2 v25 (runMax (xV m) (hV m) c 15) (k0_pay33 (slabV (xV m) c 15)) v684) Q := by
  rw [k0_part24_eq_skeleton]; unfold k0_part24_skel
  simp only [on, Prog.lift, Prog.bind_op, Prog.bind_ret, Prog.pure_eq_ret]
  refine step_weights m c zero2 ?_
  refine step_peek m c _ (fun _ => ?_)
  refine step_tile m c 15 _ rfl (rows_ccw c 1 3) rfl ?_
  refine step_recv m K c 16 26 24 16 0 rfl (by decide) (by decide) rfl (slot_amount 16) ?_
  refine step_slab m K c 16 _ _ _ _ (by decide) rfl rfl ?_
  exact step_ret c (h _ _)

theorem part25 (v14 v717 : BitVec 32) {Q : (Σ' (v729 : F .f32), FVec F S128x512 .f32) → sProp (MT nD τ sig Unit (Elt F) ℕ UU ℕ)}
    (h : iprop(St m K c 26 24 18 0 ∗ Out m c 18 ∗ Wt m c ∗ R) ⊢ Q ⟨(runMax (xV m) (hV m) c 17), (tileV (xV m) (hV m) c 17)⟩) :
    iprop(St m K c 26 24 17 0 ∗ Out m c 17 ∗ Wt m c ∗ R)
      ⊢ wpc c (on (k0_part25 (F := F)) c v14 (runMax (xV m) (hV m) c 16) (k0_pay36 (slabV (xV m) c 16)) v717) Q := by
  rw [k0_part25_eq_skeleton]; unfold k0_part25_skel
  simp only [on, Prog.lift, Prog.bind_op, Prog.bind_ret, Prog.pure_eq_ret]
  refine step_weights m c zero2 ?_
  refine step_peek m c _ (fun _ => ?_)
  refine step_tile m c 16 _ rfl (rows_cw_far c 0) rfl ?_
  refine step_recv m K c 17 26 24 17 0 rfl (by decide) (by decide) rfl (slot_amount 17) ?_
  refine step_slab m K c 17 _ _ _ _ (by decide) rfl rfl ?_
  refine step_weights m c zero2 ?_
  exact step_ret c h

theorem part26 (v14 v25 v706 : BitVec 32) {Q : (Σ' (v776 : F .f32), BitVec 32) → sProp (MT nD τ sig Unit (Elt F) ℕ UU ℕ)}
    (h : ∀ a, iprop(St m K c 26 24 19 0 ∗ Out m c 20 ∗ Wt m c ∗ R) ⊢ Q ⟨(runMax (xV m) (hV m) c 19), a⟩) :
    iprop(St m K c 26 24 18 0 ∗ Out m c 18 ∗ Wt m c ∗ R)
      ⊢ wpc c (on (k0_part26 (F := F)) c v14 v25 v706 (runMax (xV m) (hV m) c 17) (tileV (xV m) (hV m) c 17)) Q := by
  rw [k0_part26_eq_skeleton]; unfold k0_part26_skel
  simp only [on, Prog.lift, Prog.bind_op, Prog.bind_ret, Prog.pure_eq_ret]
  refine step_peek m c _ (fun _ => ?_)
  refine step_tile m c 17 _ rfl (rows_ccw_far c 0) rfl ?_
  refine step_recv m K c 18 26 24 18 0 rfl (by decide) (by decide) rfl (slot_amount 18) ?_
  refine step_slab m K c 18 _ _ _ _ (by decide) rfl rfl ?_
  refine step_weights m c zero2 ?_
  refine step_peek m c _ (fun _ => ?_)
  refine step_tile m c 18 _ rfl (rows_cw_far c 1) rfl ?_
  exact step_ret c (h _)

theorem part27 (v14 v25 v777 : BitVec 32) {Q : F .f32 → sProp (MT nD τ sig Unit (Elt F) ℕ UU ℕ)}
    (h : iprop(St m K c 26 24 20 0 ∗ Out m c 21 ∗ Wt m c ∗ R) ⊢ Q (runMax (xV m) (hV m) c 20)) :
    iprop(St m K c 26 24 19 0 ∗ Out m c 20 ∗ Wt m c ∗ R)
      ⊢ wpc c (on (k0_part27 (F := F)) c v14 v25 (runMax (xV m) (hV m) c 19) v777) Q := by
  rw [k0_part27_eq_skeleton]; unfold k0_part27_skel
  simp only [on, Prog.lift, Prog.bind_op, Prog.bind_ret, Prog.pure_eq_ret]
  refine step_recv m K c 19 26 24 19 0 rfl (by decide) (by decide) rfl (slot_amount 19) ?_
  refine step_slab m K c 19 _ _ _ _ (by decide) rfl rfl ?_
  refine step_weights m c zero2 ?_
  refine step_peek m c _ (fun _ => ?_)
  refine step_tile m c 19 _ rfl (rows_ccw_far c 1) rfl ?_
  exact step_ret c h

theorem part28 (v14 v706 : BitVec 32) {Q : (Σ' (v823 : F .f32) (v833 : FVec F S128x4096 .bf16), BitVec 32) → sProp (MT nD τ sig Unit (Elt F) ℕ UU ℕ)}
    (h : ∀ a, iprop(St m K c 26 24 22 0 ∗ Out m c 22 ∗ Wt m c ∗ R) ⊢ Q ⟨(runMax (xV m) (hV m) c 21), (k0_pay46 (slabV (xV m) c 21)), a⟩) :
    iprop(St m K c 26 24 20 0 ∗ Out m c 21 ∗ Wt m c ∗ R)
      ⊢ wpc c (on (k0_part28 (F := F)) c v14 v706 (runMax (xV m) (hV m) c 20)) Q := by
  rw [k0_part28_eq_skeleton]; unfold k0_part28_skel
  simp only [on, Prog.lift, Prog.bind_op, Prog.bind_ret, Prog.pure_eq_ret]
  refine step_recv m K c 20 26 24 20 0 rfl (by decide) (by decide) rfl (slot_amount 20) ?_
  refine step_slab m K c 20 _ _ _ _ (by decide) rfl rfl ?_
  refine step_weights m c zero2 ?_
  refine step_peek m c _ (fun _ => ?_)
  refine step_tile m c 20 _ rfl (rows_cw_far c 2) rfl ?_
  refine step_recv m K c 21 26 24 21 0 rfl (by decide) (by decide) rfl (slot_amount 21) ?_
  refine step_slab m K c 21 _ _ _ _ (by decide) rfl rfl ?_
  exact step_ret c (h _)

theorem part29 (v25 v706 v836 : BitVec 32) {Q : (Σ' (v847 : F .f32), FVec F S1x1x1 .f32) → sProp (MT nD τ sig Unit (Elt F) ℕ UU ℕ)}
    (h : iprop(St m K c 26 24 23 0 ∗ Out m c 24 ∗ Wt m c ∗ R) ⊢ Q ⟨(runMax (xV m) (hV m) c 22), (k0_pay50 (slabV (xV m) c 22) (weightV (hV m) c))⟩) :
    iprop(St m K c 26 24 22 0 ∗ Out m c 22 ∗ Wt m c ∗ R)
      ⊢ wpc c (on (k0_part29 (F := F)) c v25 v706 (runMax (xV m) (hV m) c 21) (k0_pay46 (slabV (xV m) c 21)) v836) Q := by
  rw [k0_part29_eq_skeleton]; unfold k0_part29_skel
  simp only [on, Prog.lift, Prog.bind_op, Prog.bind_ret, Prog.pure_eq_ret]
  refine step_weights m c zero2 ?_
  refine step_peek m c _ (fun _ => ?_)
  refine step_tile m c 21 _ rfl (rows_ccw_far c 2) rfl ?_
  refine step_recv m K c 22 26 24 22 0 rfl (by decide) (by decide) rfl (slot_amount 22) ?_
  refine step_slab m K c 22 _ _ _ _ (by decide) rfl rfl ?_
  refine step_weights m c zero2 ?_
  refine step_peek m c _ (fun _ => ?_)
  refine step_tile m c 22 _ rfl (rows_cw_far c 3) rfl ?_
  exact step_ret c h

theorem part30 (v2 v14 : BitVec 32) {Q : (Σ' (v894 : F .f32), BitVec 32) → sProp (MT nD τ sig Unit (Elt F) ℕ UU ℕ)}
    (h : ∀ a, iprop(St m K c 26 24 24 0 ∗ Out m c 25 ∗ Wt m c ∗ amPts m c 3 fullShare ∗ R) ⊢ Q ⟨(maxV (xV m) (hV m) c), a⟩) :
    iprop(St m K c 26 24 23 0 ∗ Out m c 24 ∗ Wt m c ∗ amEx c 3 ∗ R)
      ⊢ wpc c (on (k0_part30 (F := F)) c v2 v14 (runMax (xV m) (hV m) c 22) (k0_pay50 (slabV (xV m) c 22) (weightV (hV m) c))) Q := by
  rw [k0_part30_eq_skeleton]; unfold k0_part30_skel
  simp only [on, Prog.lift, Prog.bind_op, Prog.bind_ret, Prog.pure_eq_ret]
  refine step_recv m K c 23 26 24 23 0 rfl (by decide) (by decide) rfl (slot_amount 23) ?_
  refine step_slab m K c 23 _ _ _ _ (by decide) rfl rfl ?_
  refine step_weights m c zero2 ?_
  refine step_peek m c _ (fun _ => ?_)
  refine step_tile m c 23 _ rfl (rows_ccw_far c 3) rfl ?_
  refine step_max_peek c (fun _ => ?_)
  refine step_max_store m c (fun _ => rfl) ?_
  exact step_ret c (h _)

end Ops

end Cert.RingGemm

end
-- ==== Proof.Late.lean ====
/-
The kernel's last pieces: the maxima exchanged, every leaving copy waited for, the result stored.
-/
module

public import proofs.«01_k».proof.Proof.Pieces

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

section Ops
variable {A R : sProp (MT nD τ sig Unit (Elt F) ℕ UU ℕ)}

theorem part31 (v2 v899 : BitVec 32) {Q : (Σ' (v909 : BitVec 32) (v930 : BitVec 32), BitVec 32) → sProp (MT nD τ sig Unit (Elt F) ℕ UU ℕ)}
    (h : ∀ a b d, iprop(Wd m K c 27 0 ∗ Am m c 1 0 0 ∗ R) ⊢ Q ⟨a, b, d⟩) :
    iprop(Wd m K c 26 0 ∗ Am m c 0 0 0 ∗ R) ⊢ wpc c (on (k0_part31 (F := F)) c v2 v899) Q := by
  rw [k0_part31_eq_skeleton]; unfold k0_part31_skel
  simp only [on, Prog.lift, Prog.bind_op, Prog.bind_ret, Prog.pure_eq_ret]
  refine step_max_send m K c 0 0 0 rfl rfl rfl (max_dev_0 c) rfl rfl ?_
  exact step_ret c (h _ _ _)

theorem part32 (v2 v930 c1_i32_812 : BitVec 32) {Q : BitVec 32 → sProp (MT nD τ sig Unit (Elt F) ℕ UU ℕ)}
    (h : ∀ a, iprop(Wd m K c 29 0 ∗ Am m c 3 0 0 ∗ R) ⊢ Q a) :
    iprop(Wd m K c 27 0 ∗ Am m c 1 0 0 ∗ R) ⊢ wpc c (on (k0_part32 (F := F)) c v2 v930 c1_i32_812) Q := by
  rw [k0_part32_eq_skeleton]; unfold k0_part32_skel
  simp only [on, Prog.lift, Prog.bind_op, Prog.bind_ret, Prog.pure_eq_ret]
  refine step_max_send m K c 1 1 0 rfl rfl rfl (max_dev_1 c) rfl rfl ?_
  refine step_max_send m K c 2 2 0 rfl rfl rfl (max_dev_2 c) rfl rfl ?_
  exact step_ret c (h _)

theorem part33 {Q : PUnit → sProp (MT nD τ sig Unit (Elt F) ℕ UU ℕ)}
    (h : iprop(Wd m K c 29 4 ∗ R) ⊢ Q ⟨⟩) :
    iprop(Wd m K c 29 0 ∗ R) ⊢ wpc c (on (k0_part33 (F := F)) ) Q := by
  rw [k0_part33_eq_skeleton]; unfold k0_part33_skel
  simp only [on, Prog.lift, Prog.bind_op, Prog.bind_ret, Prog.pure_eq_ret]
  refine step_back m K c 0 29 0 (by decide) rfl (src_amount 0) ?_
  refine step_back m K c 2 29 1 (by decide) rfl (src_amount 2) ?_
  refine step_back m K c 4 29 2 (by decide) rfl (src_amount 4) ?_
  refine step_back m K c 6 29 3 (by decide) rfl (src_amount 6) ?_
  exact step_ret c h

theorem part34 {Q : PUnit → sProp (MT nD τ sig Unit (Elt F) ℕ UU ℕ)}
    (h : iprop(Wd m K c 29 8 ∗ R) ⊢ Q ⟨⟩) :
    iprop(Wd m K c 29 4 ∗ R) ⊢ wpc c (on (k0_part34 (F := F)) ) Q := by
  rw [k0_part34_eq_skeleton]; unfold k0_part34_skel
  simp only [on, Prog.lift, Prog.bind_op, Prog.bind_ret, Prog.pure_eq_ret]
  refine step_back m K c 8 29 4 (by decide) rfl (src_amount 8) ?_
  refine step_back m K c 10 29 5 (by decide) rfl (src_amount 10) ?_
  refine step_back m K c 12 29 6 (by decide) rfl (src_amount 12) ?_
  refine step_back m K c 14 29 7 (by decide) rfl (src_amount 14) ?_
  exact step_ret c h

theorem part35 {Q : PUnit → sProp (MT nD τ sig Unit (Elt F) ℕ UU ℕ)}
    (h : iprop(Wd m K c 29 12 ∗ R) ⊢ Q ⟨⟩) :
    iprop(Wd m K c 29 8 ∗ R) ⊢ wpc c (on (k0_part35 (F := F)) ) Q := by
  rw [k0_part35_eq_skeleton]; unfold k0_part35_skel
  simp only [on, Prog.lift, Prog.bind_op, Prog.bind_ret, Prog.pure_eq_ret]
  refine step_back m K c 16 29 8 (by decide) rfl (src_amount 16) ?_
  refine step_back m K c 18 29 9 (by decide) rfl (src_amount 18) ?_
  refine step_back m K c 20 29 10 (by decide) rfl (src_amount 20) ?_
  refine step_back m K c 22 29 11 (by decide) rfl (src_amount 22) ?_
  exact step_ret c h

theorem part36 {Q : PUnit → sProp (MT nD τ sig Unit (Elt F) ℕ UU ℕ)}
    (h : iprop(Wd m K c 29 16 ∗ R) ⊢ Q ⟨⟩) :
    iprop(Wd m K c 29 12 ∗ R) ⊢ wpc c (on (k0_part36 (F := F)) ) Q := by
  rw [k0_part36_eq_skeleton]; unfold k0_part36_skel
  simp only [on, Prog.lift, Prog.bind_op, Prog.bind_ret, Prog.pure_eq_ret]
  refine step_back m K c 1 29 12 (by decide) rfl (src_amount 1) ?_
  refine step_back m K c 3 29 13 (by decide) rfl (src_amount 3) ?_
  refine step_back m K c 5 29 14 (by decide) rfl (src_amount 5) ?_
  refine step_back m K c 7 29 15 (by decide) rfl (src_amount 7) ?_
  exact step_ret c h

theorem part37 {Q : PUnit → sProp (MT nD τ sig Unit (Elt F) ℕ UU ℕ)}
    (h : iprop(Wd m K c 29 20 ∗ R) ⊢ Q ⟨⟩) :
    iprop(Wd m K c 29 16 ∗ R) ⊢ wpc c (on (k0_part37 (F := F)) ) Q := by
  rw [k0_part37_eq_skeleton]; unfold k0_part37_skel
  simp only [on, Prog.lift, Prog.bind_op, Prog.bind_ret, Prog.pure_eq_ret]
  refine step_back m K c 9 29 16 (by decide) rfl (src_amount 9) ?_
  refine step_back m K c 11 29 17 (by decide) rfl (src_amount 11) ?_
  refine step_back m K c 13 29 18 (by decide) rfl (src_amount 13) ?_
  refine step_back m K c 15 29 19 (by decide) rfl (src_amount 15) ?_
  exact step_ret c h

theorem part38 {Q : PUnit → sProp (MT nD τ sig Unit (Elt F) ℕ UU ℕ)}
    (h : iprop(Wd m K c 29 23 ∗ R) ⊢ Q ⟨⟩) :
    iprop(Wd m K c 29 20 ∗ R) ⊢ wpc c (on (k0_part38 (F := F)) ) Q := by
  rw [k0_part38_eq_skeleton]; unfold k0_part38_skel
  simp only [on, Prog.lift, Prog.bind_op, Prog.bind_ret, Prog.pure_eq_ret]
  refine step_back m K c 17 29 20 (by decide) rfl (src_amount 17) ?_
  refine step_back m K c 19 29 21 (by decide) rfl (src_amount 19) ?_
  refine step_back m K c 21 29 22 (by decide) rfl (src_amount 21) ?_
  exact step_ret c h

theorem part39 (v909 v930 : BitVec 32) {Q : BitVec 32 → sProp (MT nD τ sig Unit (Elt F) ℕ UU ℕ)}
    (h : ∀ a, iprop(Wd m K c 29 24 ∗ Am m c 3 2 1 ∗ R) ⊢ Q a) :
    iprop(Wd m K c 29 23 ∗ Am m c 3 0 0 ∗ R) ⊢ wpc c (on (k0_part39 (F := F)) v909 v930) Q := by
  rw [k0_part39_eq_skeleton]; unfold k0_part39_skel
  simp only [on, Prog.lift, Prog.bind_op, Prog.bind_ret, Prog.pure_eq_ret]
  refine step_back m K c 23 29 23 (by decide) rfl (src_amount 23) ?_
  refine step_max_back m K c 0 0 0 24 rfl rfl (am_amount 3) ?_
  refine step_max_recv m K c 0 1 0 24 rfl rfl (am_amount 0) ?_
  refine step_max_back m K c 1 1 1 24 rfl rfl (am_amount 3) ?_
  exact step_ret c (h _)

theorem part40 (v951 v1118 : BitVec 32) {Q : F .f32 → sProp (MT nD τ sig Unit (Elt F) ℕ UU ℕ)}
    (h : iprop(Wd m K c 29 24 ∗ Am m c 3 3 3 ∗ R) ⊢ Q (max3 (xV m) (hV m) c)) :
    iprop(Wd m K c 29 24 ∗ Am m c 3 2 1 ∗ R) ⊢ wpc c (on (k0_part40 (F := F)) (maxV (xV m) (hV m) c) v951 v1118) Q := by
  rw [k0_part40_eq_skeleton]; unfold k0_part40_skel
  simp only [on, Prog.lift, Prog.bind_op, Prog.bind_ret, Prog.pure_eq_ret]
  refine step_max_recv m K c 1 2 1 24 rfl rfl (am_amount 1) ?_
  refine step_max_back m K c 2 2 2 24 rfl rfl (am_amount 3) ?_
  refine step_max_recv m K c 2 3 2 24 rfl rfl (am_amount 2) ?_
  refine step_max_load m c 0 3 3 (by decide) rfl ?_
  refine step_max_load m c 1 3 3 (by decide) rfl ?_
  exact step_ret c h

end Ops

end Cert.RingGemm

end
-- ==== Proof.Body.lean ====
/-
The whole kernel on one device, from what it holds on entry to what it leaves.
-/
module

public import proofs.«01_k».proof.Proof.Ends
public import proofs.«01_k».proof.Proof.Early
public import proofs.«01_k».proof.Proof.Relay
public import proofs.«01_k».proof.Proof.Near
public import proofs.«01_k».proof.Proof.Far
public import proofs.«01_k».proof.Proof.Late

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Role → ℕ) (c : Dev nD)

section Ops
variable {R : sProp (MT nD τ sig Unit (Elt F) ℕ UU ℕ)}

/-- What a device holds on entry, beside what it knows and owes. -/
def Enter (c : Dev nD) : sProp 𝕄 :=
  iprop(ToMeet m c ∗ bigSep Finset.univ (SendToks c) ∗ fam (fun p : Fin 24 => p.val < 8) (chunkPts m c) ∗ bigSep Finset.univ (ToRecv c)
    ∗ (dutyTok ER (kcell (c, .wsm)) 0 false
      ∗ (∃ f : Buf (Elt F) (oM.view.loc (c : Thread nD τ)), oM.view.loc (c : Thread nD τ) ↦[oM.view.set]{fullShare} f) ∗ Arr m c)
    ∗ atPos ER (kcell (c, .wsm)) 0 ∅ 0 ∗ WtEx c ∗ Xk m c ∗ amEx c 3 ∗ bigSep Finset.univ (MaxToks c) ∗ bigSep Finset.univ (MaxToRecv c))

/-- What the maxima's exchange starts from, beside the device's own maximum. -/
def ForMax (c : Dev nD) : sProp 𝕄 :=
  iprop(bigSep Finset.univ (MaxToks c) ∗ bigSep Finset.univ (MaxToRecv c) ∗ amEx (up 1 c) 0 ∗ amEx (up 3 c) 2)
/-- What the last part of the kernel leaves alone. -/
def Aside (c : Dev nD) : sProp 𝕄 :=
  iprop(Arr m c ∗ Xk m c ∗ semVal (kcell (c, .wsm)) 0 ∗ semVal (kcell (c, .bar)) 0)

/-- Up to the own product: the barrier, the weights, eight copies sent. -/
theorem opened :
    iprop(Core m K c 2 ∗ (semVal (kcell (c, .bar)) 0 ∗ pay m c false .bar ∗ pay m c true .bar)
      ∗ (bigSep Finset.univ (SendToks c) ∗ fam (fun p : Fin 24 => p.val < 8) (chunkPts m c) ∗ bigSep Finset.univ (ToRecv c)
        ∗ (dutyTok ER (kcell (c, .wsm)) 0 false
          ∗ (∃ f : Buf (Elt F) (oM.view.loc (c : Thread nD τ)), oM.view.loc (c : Thread nD τ) ↦[oM.view.set]{fullShare} f) ∗ Arr m c)
        ∗ atPos ER (kcell (c, .wsm)) 0 ∅ 0 ∗ WtEx c ∗ Xk m c ∗ amEx c 3 ∗ bigSep Finset.univ (MaxToks c) ∗ bigSep Finset.univ (MaxToRecv c)))
    ⊢ iprop(St m K c 2 0 0 0 ∗ (dutyTok ER (kcell (c, .wsm)) 0 false
          ∗ (∃ f : Buf (Elt F) (oM.view.loc (c : Thread nD τ)), oM.view.loc (c : Thread nD τ) ↦[oM.view.set]{fullShare} f) ∗ Arr m c)
        ∗ (atPos ER (kcell (c, .wsm)) 0 ∅ 0 ∗ WtEx c ∗ Xk m c ∗ (semVal (kcell (c, .bar)) 0 ∗ amEx c 3 ∗ ForMax c))) := by
  unfold ForMax
  iintro ⟨HC, ⟨Hb, HP⟩, H1, H2, H3, H4, H5, H6, H7, H8, H9, H10⟩
  ihave HS := (begin_st m K c) $$ [HC HP H1 H2 H3]
  · isplitl [HC]; · iexact HC
    isplitl [HP]; · iexact HP
    isplitl [H1]; · iexact H1
    isplitl [H2] <;> iassumption
  icases HS with ⟨HS, A0, A2⟩
  isplitl [HS]; · iexact HS
  isplitl [H4]; · iexact H4
  isplitl [H5]; · iexact H5
  isplitl [H6]; · iexact H6
  isplitl [H7]; · iexact H7
  isplitl [Hb]; · iexact Hb
  isplitl [H8]; · iexact H8
  isplitl [H9]; · iexact H9
  isplitl [H10]; · iexact H10
  isplitl [A0] <;> iassumption

theorem fetched (A B C D E G : sProp (MT nD τ sig Unit (Elt F) ℕ UU ℕ)) : iprop(A ∗ B ∗ (C ∗ D ∗ E ∗ G)) ⊢ iprop(A ∗ (B ∗ C) ∗ D ∗ E ∗ G) := by
  iintro ⟨HA, HB, HC, HD, HE, HG⟩
  iframe

/-- The weights' staging buffer becomes the product's. -/
theorem cleared (A B C D E G : sProp (MT nD τ sig Unit (Elt F) ℕ UU ℕ)) :
    iprop(A ∗ wArrived m c ∗ B ∗ C ∗ D ∗ (E ∗ G ∗ R)) ⊢ iprop(A ∗ Out m c 0 ∗ B ∗ G ∗ (R ∗ (Arr m c ∗ C ∗ D ∗ E))) := by
  iintro ⟨HA, HW, HB, HC, HD, HE, HG, HR⟩
  ihave HW := (arrived_out m c) $$ HW
  icases HW with ⟨HO, HH⟩
  iframe

theorem turned :
    iprop(St m K c 26 24 24 0 ∗ Out m c 25 ∗ Wt m c ∗ amPts m c 3 fullShare ∗ (ForMax c ∗ R))
      ⊢ iprop(Wd m K c 26 0 ∗ Am m c 0 0 0 ∗ (Out m c 25 ∗ (Keep m c ∗ Wt m c ∗ R))) := by
  unfold ForMax
  iintro ⟨HS, HO, HW, HA, HM, HR⟩
  ihave H := (turn m K c) $$ [HS HA HM]
  · isplitl [HS]; · iexact HS
    isplitl [HA] <;> iassumption
  icases H with ⟨H0, H1, H2⟩
  iframe

set_option maxRecDepth 65536 in
/-- Everything but the last load and store. -/
theorem part41 {Q : (Σ' (v1149 : F .f32), FVec F S4096x512 .fp8e4m3) → sProp (MT nD τ sig Unit (Elt F) ℕ UU ℕ)}
    (h : iprop(Wd m K c 29 24 ∗ Am m c 3 3 3 ∗ Out m c 25 ∗ (Keep m c ∗ Wt m c ∗ Aside m c))
      ⊢ Q ⟨k0_pay56 (max3 (xV m) (hV m) c) (maxAt (xV m) (hV m) c 1), k0_pay57 (max3 (xV m) (hV m) c) (maxAt (xV m) (hV m) c 1) (prodV (xV m) (hV m) c)⟩) :
    iprop(Core m K c 0 ∗ Enter m c) ⊢ wpc c (on (k0_part41 (F := F))) Q := by
  rw [k0_part41_eq_skeleton]
  unfold Enter
  refine step_seq c (part1 m K c (fun _ _ _ => ?_))
  refine (opened m K c).trans ?_
  refine step_seq c (part2 m K c _ _ ?_)
  refine step_seq c (part3 m K c _ _ (fun _ => ?_))
  refine (fetched _ _ _ _ _ _).trans ?_
  refine step_seq c (part4 m K c _ _ _ ?_)
  refine (cleared m c _ _ _ _ _ _).trans ?_
  refine step_seq c (part5 m K c _ _ ?_)
  refine step_seq c (part6 m K c _ _ ?_)
  refine step_seq c (part7 m K c _ _ ?_)
  refine step_seq c (part8 m K c _ _ (fun _ => ?_))
  refine step_seq c (part9 m K c _ _ _ ?_)
  refine step_seq c (part10 m K c _ (fun _ _ _ => ?_))
  refine step_seq c (part11 m K c _ _ _ (fun _ => ?_))
  refine step_seq c (part12 m K c _ _ _ ?_)
  refine step_seq c (part13 m K c _ _ ?_)
  refine step_seq c (part14 m K c _ _ (fun _ _ => ?_))
  refine step_seq c (part15 m K c _ _ _ _ (fun _ => ?_))
  refine step_seq c (part16 m K c _ _ _ (fun _ _ => ?_))
  refine step_seq c (part17 m K c _ _ _ _ (fun _ => ?_))
  refine step_seq c (part18 m K c _ _ _ (fun _ _ => ?_))
  refine step_seq c (part19 m K c _ _ _ _ (fun _ _ _ => ?_))
  refine step_seq c (part20 m K c _ _ _ _ (fun _ _ => ?_))
  refine step_seq c (part21 m K c _ _ ?_)
  refine step_seq c (part22 m K c _ _ (fun _ => ?_))
  refine step_seq c (part23 m K c _ _ _ (fun _ => ?_))
  refine step_seq c (part24 m K c _ _ _ (fun _ _ => ?_))
  refine step_seq c (part25 m K c _ _ ?_)
  refine step_seq c (part26 m K c _ _ _ (fun _ => ?_))
  refine step_seq c (part27 m K c _ _ _ ?_)
  refine step_seq c (part28 m K c _ _ (fun _ => ?_))
  refine step_seq c (part29 m K c _ _ _ ?_)
  refine step_seq c (part30 m K c _ _ (fun _ => ?_))
  refine (turned m K c).trans ?_
  refine step_seq c (part31 m K c _ _ (fun _ _ _ => ?_))
  refine step_seq c (part32 m K c _ _ _ (fun _ => ?_))
  refine step_seq c (part33 m K c ?_)
  refine step_seq c (part34 m K c ?_)
  refine step_seq c (part35 m K c ?_)
  refine step_seq c (part36 m K c ?_)
  refine step_seq c (part37 m K c ?_)
  refine step_seq c (part38 m K c ?_)
  refine step_seq c (part39 m K c _ _ (fun _ => ?_))
  refine step_seq c (part40 m K c _ _ ?_)
  refine step_seq c (step_max_load m c 2 3 3 (by decide) rfl (step_ret c ?_))
  refine step_seq c (step_read_prod m c (step_ret c ?_))
  exact step_ret c h

/-- The kernel on one device. -/
theorem whole_run {Q : PUnit → sProp (MT nD τ sig Unit (Elt F) ℕ UU ℕ)} (h : Leave m c ⊢ Q ⟨⟩) :
    iprop(Core m K c 0 ∗ Enter m c) ⊢ wpc c (on (cc0_body (F := F))) Q := by
  rw [cc0_body_eq_skeleton]
  refine step_seq c (part41 m K c ?_)
  refine step_seq c (step_read_prod m c (step_ret c ?_))
  refine step_seq c (step_result m c rfl (step_ret c ?_))
  exact step_ret c ((leave m c (K := K)).trans h)

end Ops

end Cert.RingGemm

end
-- ==== Proof.Deal.lean ====
/-
The protocol's ghost state at launch: every cell's two or one duties minted, every cell's invariant allocated, and
each device dealt its own positions and the tokens of the duties it pays, which are other devices' for the most part.
-/
module

public import proofs.«01_k».proof.Proof.Body

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is minted -/

def protoCells : Finset (GSem nD τ sig) := Finset.univ.map ⟨kcell, fun _ _ => kcell_inj⟩

/-- A device's duties: one of every role, and the barrier's second. -/
abbrev dutyOf (cj : Dev nD × (Unit ⊕ Role)) : GSem nD τ sig × ℕ × Bool :=
  match cj.2 with
  | .inl _ => (kcell (cj.1, .bar), 0, true)
  | .inr k => (kcell (cj.1, k), 0, false)

theorem dutyOf_inj : Function.Injective dutyOf := by
  rintro ⟨c, _ | k⟩ ⟨c', _ | k'⟩ h
  · have := kcell_inj (congrArg (fun x : GSem nD τ sig × ℕ × Bool => x.1) h)
    exact congrArg (fun d => (d, _)) (congrArg Prod.fst this)
  · exact Bool.noConfusion (congrArg (fun x : GSem nD τ sig × ℕ × Bool => x.2.2) h)
  · exact Bool.noConfusion (congrArg (fun x : GSem nD τ sig × ℕ × Bool => x.2.2) h)
  · have := kcell_inj (congrArg (fun x : GSem nD τ sig × ℕ × Bool => x.1) h)
    exact congrArg (fun ck : Dev nD × Role => (ck.1, Sum.inr ck.2)) this

def protoToks : Finset (GSem nD τ sig × ℕ × Bool) := Finset.univ.map ⟨dutyOf, dutyOf_inj⟩

def u₀ : UU := (initOf (Pipeline.cells cfgs cellOf_inj) (Pipeline.launchToks cfgs cellOf_inj), initOf protoCells protoToks)

/-- The tokens of device `c`'s own cells. -/
def ownToks (c : Dev nD) : sProp 𝕄 :=
  iprop(dutyTok ER (kcell (c, .bar)) 0 true ∗ bigSep Finset.univ fun k : Role => dutyTok ER (kcell (c, k)) 0 false)

/-- What the launch deals device `c`. -/
def G (c : Dev nD) : sProp 𝕄 :=
  iprop((bigSep Finset.univ fun k : Role => roundState ER (Rd m) (kcell (c, k)) 0)
    ∗ (bigSep Finset.univ fun k : Role => atPos ER (kcell (c, k)) 0 ∅ 0)
    ∗ (bigSep Finset.univ fun k : Role => reached ER (kcell (c, k)) 0) ∗ ownToks c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Role => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => ownToks c := by
    unfold protoToks; rw [bigSep_map, bigSep_univ_prod]
    exact bigSep_congr fun c _ => by unfold ownToks; rw [bigSep_univ_sum, bigSep_univ_of_subsingleton ()]; rfl
  iintro HX
  imod (Rounds.fund ER (Rd m) protoCells protoToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-! ## The semaphores at launch -/

/-- The roles whose semaphores are the kernel's own: all but the barrier. -/
abbrev OwnRole : Type := Unit ⊕ Fin 24 ⊕ Fin 24 ⊕ Fin 3 ⊕ Fin 3
abbrev osem (k : OwnRole) : SemLoc sig := csem (roleSum (.inr k))

theorem own_scoped : ∀ k : OwnRole, (osem k).isScoped .tc = true := by decide +kernel
theorem own_apart : ∀ (k : OwnRole) (w : Fin 2) (s : Fin (cfg0.spec w).nbuf), osem k ≠ .dma ((cfg0.spec w).sem s) := by decide +kernel
theorem ownSemFacts : Pipeline.OwnSemFacts cfg0.spec osem :=
  ⟨own_scoped, fun _ _ h => Sum.inr_injective (roleSum.injective (csem_inj h)), own_apart⟩

theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

/-- All of a device's semaphores of the protocol. -/
theorem sems0_eq (c : Dev nD) :
    (bigSep Finset.univ fun k : Role => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_univ_equiv roleSum, bigSep_univ_sum, bigSep_univ_of_subsingleton (), unscopedSems0_eq]
  rfl

/-! ## The tokens dealt -/

/-- The tokens of the duties device `c` pays. -/
def payToks (c : Dev nD) : sProp 𝕄 :=
  iprop(dutyTok ER (kcell (up 1 c, .bar)) 0 true ∗ dutyTok ER (kcell (up 3 c, .bar)) 0 false ∗ dutyTok ER (kcell (c, .wsm)) 0 false
    ∗ (bigSep Finset.univ fun p => dutyTok ER (kcell (c, .snd p)) 0 false) ∗ (bigSep Finset.univ fun p => dutyTok ER (kcell (peer p c, .rcv p)) 0 false)
    ∗ (bigSep Finset.univ fun i => dutyTok ER (kcell (c, .asn i)) 0 false)
    ∗ bigSep Finset.univ fun i : Fin 3 => dutyTok ER (kcell (up (1 + i.val) c, .arc i)) 0 false)

/-- A family over the devices, each taken at the device a bijection sends it to. -/
theorem around (e : Dev nD ≃ Dev nD) (Φ : Dev nD → sProp (MT nD τ sig Unit (Elt F) ℕ UU ℕ)) :
    bigSep Finset.univ Φ = bigSep Finset.univ fun c => Φ (e c) := bigSep_univ_equiv e Φ

set_option backward.proofsInPublic true in
def upE (k : ℕ) : Dev nD ≃ Dev nD where
  toFun := up k
  invFun := up (3 * k)
  left_inv c := by have : c.val < 4 := c.isLt; exact Fin.ext (by show ((c.val + k) % 4 + 3 * k) % 4 = c.val; omega)
  right_inv c := by have : c.val < 4 := c.isLt; exact Fin.ext (by show ((c.val + 3 * k) % 4 + k) % 4 = c.val; omega)
set_option backward.proofsInPublic true in
def peerE (p : Fin 24) : Dev nD ≃ Dev nD := ⟨peer p, from' p, from'_peer p, peer_from' p⟩

theorem toks_around : (bigSep Finset.univ fun c : Dev nD => (ownToks c : sProp 𝕄)) = bigSep Finset.univ fun c : Dev nD => payToks c := by
  have hr : (bigSep Finset.univ fun c : Dev nD => bigSep Finset.univ fun p : Fin 24 => (dutyTok ER (kcell (c, .rcv p)) 0 false : sProp 𝕄))
      = bigSep Finset.univ fun c : Dev nD => bigSep Finset.univ fun p : Fin 24 => dutyTok ER (kcell (peer p c, .rcv p)) 0 false := by
    rw [bigSep_univ_comm, bigSep_univ_comm (fun (c : Dev nD) (p : Fin 24) => (dutyTok ER (kcell (peer p c, .rcv p)) 0 false : sProp 𝕄))]
    exact bigSep_congr fun p _ => around (peerE p) fun c => dutyTok ER (kcell (c, .rcv p)) 0 false
  have ha : (bigSep Finset.univ fun c : Dev nD => bigSep Finset.univ fun i : Fin 3 => (dutyTok ER (kcell (c, .arc i)) 0 false : sProp 𝕄))
      = bigSep Finset.univ fun c : Dev nD => bigSep Finset.univ fun i : Fin 3 => dutyTok ER (kcell (up (1 + i.val) c, .arc i)) 0 false := by
    rw [bigSep_univ_comm, bigSep_univ_comm (fun (c : Dev nD) (i : Fin 3) => (dutyTok ER (kcell (up (1 + i.val) c, .arc i)) 0 false : sProp 𝕄))]
    exact bigSep_congr fun i _ => around (upE (1 + i.val)) fun c => dutyTok ER (kcell (c, .arc i)) 0 false
  unfold ownToks payToks
  rw [bigSep_congr fun (c : Dev nD) _ => congrArg (fun X => iprop(dutyTok ER (kcell (c, .bar)) 0 true ∗ X)) (by_role fun k => dutyTok ER (kcell (c, k)) 0 false)]
  simp only [bigSep_sep']
  rw [hr, ha, around (upE 1) fun c => dutyTok ER (kcell (c, .bar)) 0 true, around (upE 3) fun c => dutyTok ER (kcell (c, .bar)) 0 false]
  rfl

/-- What device `c` alone holds. -/
def linear (c : Dev nD) : sProp 𝕄 := iprop((bigSep Finset.univ fun k : Role => atPos ER (kcell (c, k)) 0 ∅ 0) ∗ payToks c)
/-- With what every device knows. -/
def G' (c : Dev nD) : sProp 𝕄 := iprop(∃ K, records m K ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Role => iprop(∃ κ : ℕ, cellInv ER (Rd m) κ (kcell (c, k))))
          ∗ (bigSep Finset.univ fun k : Role => atPos ER (kcell (c, k)) 0 ∅ 0)
          ∗ (bigSep Finset.univ fun k : Role => reached ER (kcell (c, k)) 0) ∗ ownToks c) := by
  unfold G
  iintro ⟨Hos, Hus, Hst, Hat, Hr, Htok⟩
  ihave Hv := (Entails.of_eq (sems0_eq (F := F) c).symm) $$ [Hos Hus]
  · isplitl [Hus] <;> iassumption
  imod (show iprop((bigSep Finset.univ fun k : Role => semVal (kcell (c, k)) 0) ∗ bigSep Finset.univ fun k : Role => roundState ER (Rd m) (kcell (c, k)) 0)
      ⊢ (|={Set.univ}=> bigSep Finset.univ fun k : Role => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem regroup :
    (bigSep Finset.univ fun c : Dev nD => iprop((bigSep Finset.univ fun k : Role => iprop(∃ κ : ℕ, cellInv ER (Rd m) κ (kcell (c, k))))
          ∗ (bigSep Finset.univ fun k : Role => atPos ER (kcell (c, k)) 0 ∅ 0)
          ∗ (bigSep Finset.univ fun k : Role => reached ER (kcell (c, k)) 0) ∗ ownToks c) : sProp 𝕄)
      ⊢ bigSep Finset.univ (G' m) := by
  rw [bigSep_sep', bigSep_sep', bigSep_sep', toks_around, ← bigSep_univ_prod (fun ck : Dev nD × Role => iprop(∃ κ : ℕ, cellInv ER (Rd m) κ (kcell ck))),
    ← bigSep_univ_prod (fun ck : Dev nD × Role => (reached ER (kcell ck) 0 : sProp 𝕄))]
  iintro ⟨HI, Hat, #HR, Htok⟩
  ihave HK := (BI.bigSep_exists_pi Finset.univ (fun (ck : Dev nD × Role) (κ : ℕ) => (cellInv ER (Rd m) κ (kcell ck) : sProp 𝕄))) $$ HI
  icases HK with ⟨%K, #HI⟩
  iapply (bigSep_with_persistent (R := records m K) (Φ := linear) (Ψ := G' m) fun c _ => by
    unfold G'
    iintro ⟨H1, H2⟩
    iexists K
    isplitl [H1] <;> iassumption)
  isplitr
  · unfold records; isplitl; · iexact HI
    iexact HR
  · unfold linear
    iapply (Entails.of_eq (bigSep_sep' Finset.univ (fun c : Dev nD => bigSep Finset.univ fun k : Role => (atPos ER (kcell (c, k)) 0 ∅ 0 : sProp 𝕄)) payToks).symm)
    isplitl [Hat] <;> iassumption

/-- Every device's semaphores at once become the protocol's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- How many payments of others a role's cell is launched with. -/
def dues : Role → ℕ
  | .bar => 2
  | .rcv _ => 1
  | .arc _ => 1
  | _ => 0

theorem payers : ∀ (c : Dev nD) (k : Role), (∑ d : Dev nD, ∑ t ∈ Finset.Ico 0 29, if payee d t = (c, k) then 1 else 0) = dues k := by decide +kernel

theorem owed_at (d c : Dev nD) (k : Role) : O d 0 (kcell (c, k)) () = ∑ t ∈ Finset.Ico 0 29, (if payee d t = (c, k) then 1 else 0) * units k := by
  unfold O
  rw [Finset.sum_apply, Finsupp.finset_sum_apply]
  refine Finset.sum_congr rfl fun t _ => ?_
  rw [tallyAt_apply]
  by_cases h : payee d t = (c, k)
  · rw [if_pos h, if_pos ⟨by rw [h], rfl⟩, h, one_mul]
  · rw [if_neg h, if_neg (fun e => h (kcell_inj e.1.symm)), zero_mul]

theorem launch_at (c : Dev nD) (k : Role) :
    tallyOn (kcell (c, k)) (launchCredit (Pipeline.owing fun d => O d 0) 0 (kcell (c, k))) = (tallyAt (kcell (c, k)) () (dues k * units k) : CellTallies nD τ sig Unit) := by
  unfold tallyAt; refine congrArg _ (Finsupp.ext fun u => ?_); cases u
  rw [Pipeline.launchCredit_owing, Finsupp.single_eq_same, Finset.sum_congr rfl fun d _ => owed_at d c k, ← payers c k, Finset.sum_mul]
  exact Finset.sum_congr rfl fun d _ => (Finset.sum_mul _ _ _).symm

theorem creds (c : Dev nD) :
    (Pipeline.launchCred (fun d => O d 0) c : sProp 𝕄)
      ⊢ iprop(cred (tallyAt (kcell (c, .bar)) () 2) ∗ (bigSep Finset.univ fun p : Fin 24 => cred (tallyAt (kcell (c, .rcv p)) () (units (.rcv p))))
        ∗ bigSep Finset.univ fun i : Fin 3 => cred (tallyAt (kcell (c, .arc i)) () (units (.arc i)))) := by
  have h1 : (Pipeline.launchCred (fun d => O d 0) c : sProp 𝕄) ⊢ bigSep Finset.univ fun k : Role => cred (tallyAt (kcell (c, k)) () (dues k * units k)) := by
    unfold Pipeline.launchCred
    refine (bigSep_subset (Finset.subset_univ (Finset.univ.map ⟨csem, csem_inj⟩))).trans ?_
    rw [bigSep_map]
    exact bigSep_mono fun k _ => Entails.of_eq (congrArg (fun x => (cred x : sProp 𝕄)) (launch_at c k))
  refine h1.trans ?_
  rw [by_role]
  simp only [dues, one_mul]
  iintro ⟨H0, -, -, H1, -, H2⟩
  isplitl [H0]; · iexact H0
  isplitl [H1] <;> iassumption

end Cert.RingGemm

end
-- ==== Proof.Launch.lean ====
/-
The launch: the body's obligation from `whole_run`, and the whole program's run on the four devices, for any float values.
-/
module

public import proofs.«01_k».proof.Proof.Deal
public import Idealize.ShloMosaic.Lib.Pipeline.Launch
public import Idealize.ShloMosaic.Lib.Quiescent
public import Idealize.ShloMosaic.Lib.Pipeline.CollectiveSegs

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)
variable (ρ : Dev nD → PrngReg)

/-! ## What the body starts and ends with -/

/-- The three arrays of scratch that carry the messages, and the narrowed weights' one, at any contents. -/
def Scratch (c : Dev nD) : sProp 𝕄 :=
  iprop(WtEx c ∗ (∃ f : Buf (Elt F) ((bM false).view.loc (c : Thread nD τ)), (bM false).view.loc (c : Thread nD τ) ↦[Finset.univ]{fullShare} f)
    ∗ (∃ f : Buf (Elt F) ((bM true).view.loc (c : Thread nD τ)), (bM true).view.loc (c : Thread nD τ) ↦[Finset.univ]{fullShare} f)
    ∗ (∃ f : Buf (Elt F) (aM.view.loc (c : Thread nD τ)), aM.view.loc (c : Thread nD τ) ↦[Finset.univ]{fullShare} f))

theorem scratch_eq (c : Dev nD) : (Pipeline.scopedRest cfg0.spec c : sProp 𝕄) = Scratch c := scopedRest0_eq c

/-- What the launch routes to device `c`'s body. -/
def start (c : Dev nD) : sProp 𝕄 :=
  iprop(G' m c ∗ Pipeline.launchCred (fun d => O d 0) c ∗ levAts L lv ∗ Arr m c)

def Φ₀ (c : Dev nD) : sProp 𝕄 := iprop(start m c ∗ Scratch c)
def Φ₁ (c : Dev nD) : sProp 𝕄 := iprop((bigSep Finset.univ fun k : Role => semVal (kcell (c, k)) 0) ∗ Scratch c ∗ Arr m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => outV (xV m) (hV m) c
  Φ t := match t with
    | ⟨0, _⟩ => Φ₀ m c
    | ⟨_ + 1, _⟩ => Φ₁ m c
  q _ := fullShare
  owed t := match t with
    | ⟨0, _⟩ => O c 0
    | ⟨_ + 1, _⟩ => 0

theorem cfg0_N : cfg0.N = 1 := by decide
def pt : Fin cfg0.N := ⟨0, by rw [cfg0_N]; decide⟩
theorem eq_pt (t : Fin cfg0.N) : t = pt := by
  obtain ⟨t, ht⟩ := t; have := cfg0_N; exact Fin.ext (by simp only [pt]; omega)

theorem bigSep_W (Φ : Fin cfg0.W → sProp (MT nD τ sig Unit (Elt F) ℕ UU ℕ)) : bigSep Finset.univ Φ = iprop(Φ (0 : Fin 2) ∗ Φ (1 : Fin 2)) := bigSep_W0 Φ
theorem fetch_x (t : Fin cfg0.N) : (cfg0.win (0 : Fin 2)).fetch t = true := by rw [eq_pt t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))
set_option maxRecDepth 4000 in
def bodyPost (c : Dev nD) : sProp 𝕄 :=
  iprop(Φ₁ m c ∗ (dats m ρ 0 c).owesAt () pt.succ ∗ stg c cc0_stg0_0 (xV m c) ∗ stg c cc0_stg1_0 (outV (xV m) (hV m) c))

/-- What was dealt and the credits are what the body starts from. -/
theorem enter (K : Dev nD × Role → ℕ) (c : Dev nD) :
    iprop(linear c ∗ Pipeline.launchCred (fun d => O d 0) c ∗ Arr m c ∗ Scratch c ∗ XFull m c ∗ (∃ f : Buf (Elt F) (oM.view.loc (c : Thread nD τ)), oM.view.loc (c : Thread nD τ) ↦[oM.view.set]{fullShare} f))
      ⊢ Enter m c := by
  have hpos := by_role fun k => (atPos ER (kcell (c, k)) 0 ∅ 0 : sProp 𝕄)
  have hS : (bigSep Finset.univ (SendToks (F := F) c)) = iprop((bigSep Finset.univ fun p => atPos ER (kcell (c, .snd p)) 0 ∅ 0)
      ∗ (bigSep Finset.univ fun p => dutyTok ER (kcell (c, .snd p)) 0 false) ∗ bigSep Finset.univ fun p => dutyTok ER (kcell (peer p c, .rcv p)) 0 false) := by
    unfold SendToks; rw [bigSep_sep', bigSep_sep']
  have hM : (bigSep Finset.univ (MaxToks (F := F) c)) = iprop((bigSep Finset.univ fun i => atPos ER (kcell (c, .asn i)) 0 ∅ 0)
      ∗ (bigSep Finset.univ fun i => dutyTok ER (kcell (c, .asn i)) 0 false) ∗ bigSep Finset.univ fun i : Fin 3 => dutyTok ER (kcell (up (1 + i.val) c, .arc i)) 0 false) := by
    unfold MaxToks; rw [bigSep_sep', bigSep_sep']
  have hR : (bigSep Finset.univ (ToRecv (F := F) c)) = iprop((bigSep Finset.univ fun p => atPos ER (kcell (c, .rcv p)) 0 ∅ 0)
      ∗ bigSep Finset.univ fun p => cred (tallyAt (kcell (c, .rcv p)) () (units (.rcv p)))) := by unfold ToRecv; rw [bigSep_sep']
  have hA : (bigSep Finset.univ (MaxToRecv (F := F) c)) = iprop((bigSep Finset.univ fun i => atPos ER (kcell (c, .arc i)) 0 ∅ 0)
      ∗ bigSep Finset.univ fun i => cred (tallyAt (kcell (c, .arc i)) () (units (.arc i)))) := by unfold MaxToRecv; rw [bigSep_sep']
  unfold linear payToks Scratch Enter ToMeet
  rw [hS, hM, hR, hA, hpos]
  iintro ⟨⟨⟨P0, P1, P2, P3, P4, P5⟩, T1, T3, TW, TS, TR, TA, TB⟩, HC, Harr, ⟨HW, HB0, HB1, HM⟩, HX, HO⟩
  ihave HC := (creds c) $$ HC
  icases HC with ⟨C0, CR, CA⟩
  ihave HB0 := (slots_any c false) $$ HB0
  ihave HB1 := (slots_any c true) $$ HB1
  ihave HM := (maxes_any c) $$ HM
  ihave HM := (Entails.of_eq (four (amEx (F := F) c))) $$ HM
  icases HM with ⟨M0, M1, M2, M3⟩
  ihave HP := (meet_pays m c) $$ [HB0 HB1 M0 M1 M2]
  · isplitl [HB0]; · iexact HB0
    isplitl [HB1]; · iexact HB1
    isplitl [M0]; · iexact M0
    isplitl [M1] <;> iassumption
  icases HP with ⟨HP3, HP1⟩
  ihave HX := (x_split m c).mp $$ HX
  icases HX with ⟨HX1, HX2⟩
  isplitl [T1 T3 HP3 HP1 C0 P0]
  · isplitl [T3 HP3]
    · isplitl [T3] <;> iassumption
    isplitl [T1 HP1]
    · isplitl [T1] <;> iassumption
    isplitl [C0] <;> iassumption
  isplitl [P2 TS TR]
  · isplitl [P2]; · iexact P2
    isplitl [TS] <;> iassumption
  isplitl [HX1]; · iexact HX1
  isplitl [P3 CR]
  · isplitl [P3] <;> iassumption
  isplitl [TW HO Harr]
  · isplitl [TW]; · iexact TW
    isplitl [HO] <;> iassumption
  isplitl [P1]; · iexact P1
  isplitl [HW]; · iexact HW
  isplitl [HX2]; · iexact HX2
  isplitl [M3]; · iexact M3
  isplitl [P4 TA TB]
  · isplitl [P4]; · iexact P4
    isplitl [TA] <;> iassumption
  isplitl [P5] <;> iassumption

/-- What the body ends with is the point's result. -/
theorem exit_body (c : Dev nD) : Leave m c ⊢ bodyPost m ρ c := by
  unfold Leave bodyPost Φ₁ Scratch WtEx Wt XFull Res stg
  unfold Dat.owesAt Pipeline.owesWithin
  rw [show (dats m ρ 0 c).owed pt.succ = 0 from rfl]
  iintro ⟨⟨%W, HO⟩, HZ, ⟨HW, HB0, HB1, HM⟩, HX, HR, HA⟩
  isplitl [HZ HW HB0 HB1 HM HA]
  · isplitl [HZ]; · iexact HZ
    isplitr [HA]
    · isplitl [HW]; · iexists _; iexact HW
      isplitl [HB0]; · iexists _; iexact HB0
      isplitl [HB1]; · iexists _; iexact HB1
      iexists _; iexact HM
    iexact HA
  isplitl [HO]
  · iexists W
    isplitr; · ipureintro; exact fun _ _ => Or.inl trivial
    iexact HO
  isplitl [HX]
  · iexists xC m c
    isplitr; · ipureintro; rfl
    iexact HX
  · iexists resC m c
    isplitr; · ipureintro; rfl
    iexact HR

set_option maxRecDepth 4000 in
theorem body_pre (c : Dev nD) : bodyPre m ρ c ⊢ iprop(∃ K, Core m K c 0 ∗ Enter m c) := by
  unfold bodyPre Φ₀ start G' stg
  iintro ⟨⟨⟨⟨%K, #HI, Hlin⟩, HC, #Hlev, Harr⟩, Hscr⟩, HO, ⟨%d0, %g0, %hg0, HX⟩, ⟨%d1, %g1, %hg1, HR⟩⟩
  have hx : g0 = xC m c := by
    rw [hg0]; unfold Dat.before; rw [if_pos (fetch_x pt)]; rfl
  subst hx
  unfold Dat.owesAt Pipeline.owesWithin
  icases HO with ⟨%W, %hW, HO⟩
  iexists K
  isplitl [HO]
  · unfold Core
    isplitr; · iexact HI
    isplitr; · iexact Hlev
    iexists W; iexact HO
  iapply (enter m K c)
  isplitl [Hlin]; · iexact Hlin
  isplitl [HC]; · iexact HC
  isplitl [Harr]; · iexact Harr
  isplitl [Hscr]; · iexact Hscr
  isplitl [HX]
  · unfold XFull; iexact HX
  iexists g1
  rw [show oM.view.set = Finset.univ from View.set_whole _]
  iexact HR

set_option maxRecDepth 16000 in
theorem body_obligation (c : Dev nD) : BodyObligation (dats (F := F) m ρ 0 c) (defs₀ (F := F)) 𝒱₀ () Set.univ := fun t => by
  rw [eq_pt t]
  rw [bigSep_W, bigSep_W]
  simp only [owns_whole_eq]
  show bodyPre m ρ c ⊢ wpc c (on (cc0_body (F := F))) (fun _ => bodyPost m ρ c)
  exact (body_pre m ρ c).trans (BIClass.exists_elim fun K => whole_run m K c (Q := fun _ => bodyPost m ρ c) (exit_body m ρ c))

/-! ## The launch's side conditions -/

theorem share_eq (c : Dev nD) (w : Fin cfg0.W) : (dats m ρ 0 c).share w = fullShare := by unfold Dat.share; split <;> rfl

theorem arr_whole (c : Dev nD) : (Arr m c : sProp 𝕄) = (((c : Thread nD τ).loc main_arg1) ↦{fullShare} m ((c : Thread nD τ).loc main_arg1)) := by
  unfold Arr; rw [show hM.view.set = Finset.univ from View.set_whole _]; rfl

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  rw [Pipeline.unscopedRestP_none, show Pipeline.unscopedRest cfg0.spec c (fun b => m ((c : Thread nD τ).loc b)) = Arr m c from
    (unscopedRest0_eq c _).trans (arr_whole m c).symm]
  iintro ⟨Harr, Hlev, Hcr, -, HG⟩
  imodintro
  unfold start
  isplitl
  · isplitl [HG]; · iexact HG
    isplitl [Hcr]; · iexact Hcr
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ Arr m c) ∗ Pipeline.ownSems0 osem c ∗ Pipeline.scopedRest cfg0.spec c) := by
  rw [show (dats m ρ 0 c).Φ (Fin.last cfg0.N) = Φ₁ m c from rfl, scratch_eq]
  unfold Φ₁
  rw [sems0_eq]
  iintro ⟨⟨Hu, Ho⟩, Hs, HA⟩
  isplitl [Hu HA]
  · isplitl [Hu] <;> iassumption
  isplitl [Ho] <;> iassumption

/-- A staging buffer's semaphore has no role. -/
theorem stage_low (c : Dev nD) (q : DmaSem sig) (h : ∀ k, csem k ≠ .dma q) : lv ((c : Thread nD τ), .dma q) () = 0 := by
  unfold lv roleOf; rw [dif_neg (fun ⟨k, hk⟩ => h k hk)]
theorem stage_apart : ∀ (w : Fin 2) (s : Fin (cfg0.spec w).nbuf) (k : Role), csem k ≠ .dma ((cfg0.spec w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (stage_low c _ (stage_apart w s)) 0
    · rw [show (dats m ρ 0 c).owed ⟨_ + 1, ht⟩ = 0 from rfl, MayWait_zero]; iintro -; iempintro

/-! ## The run -/

def finalA (c : Dev nD) (w : Fin cfg0.W) : Buf (Elt F) ((cfg0.win w).arr.view.loc (c : Thread nD τ)) := (dats m ρ 0 c).arrAt w cfg0.N

/-- The windows' arrays at the end, and the weights' array unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem arr_read (c : Dev nD) (s' : Phys nD τ sig (Elt F)) :
    iprop(Arr m c ∗ SI s') ⊢ (iprop(⌜s'.mem.mem ((c : Thread nD τ).loc main_arg1) = m ((c : Thread nD τ).loc main_arg1)⌝ ∗ SI s') : sProp 𝕄) := by
  rw [arr_whole]
  have h := pointsTo_read_all (Ix := Unit) (Name := ℕ) (U := UU) (Lvl := ℕ) (Finset.univ : Finset Unit) (fun _ => (c : Thread nD τ).loc main_arg1) (fun _ => m ((c : Thread nD τ).loc main_arg1)) s'
  rw [bigSep_univ_of_subsingleton ()] at h
  exact h.trans (sep_mono_left (BI.pure_mono fun h => h () (Finset.mem_univ _)))

/-- What is read at the end besides the windows' arrays: the barrier's counter, and the weights' array. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem read_all (c : Dev nD) (s' : Phys nD τ sig (Elt F)) :
    iprop((unscopedSems0 c ∗ Arr m c) ∗ emp ∗ SI s') ⊢ (|={Set.univ}=> iprop(⌜QY m c s'.mem⌝ ∗ SI s') : sProp 𝕄) := by
  iintro ⟨⟨Hu, HA⟩, -, HSI⟩
  ihave H := (arr_read m c s') $$ [HA HSI]
  · isplitl [HA] <;> iassumption
  icases H with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h2, h1⟩
  iexact HSI

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

set_option maxRecDepth 16000 in
/-- From any memory with zero counters, every fair execution of the program on the four devices terminates without a
    fault, with each device's arrays at the computed contents and every semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G m) (G' := G' m) (u₀ := u₀)
    (hu₀ := fund_all m)
    (hglob := glob m)
    (hA := fun _ _ => rfl) (hpf := fun _ k => k.elim0)
    (X := start m) (Y := fun c => iprop(unscopedSems0 c ∗ Arr m c)) (Z := fun _ => iprop(emp))
    (hX := start_intro m ρ) (hin := phi0_intro m ρ) (hout := phi1_exit m ρ)
    (QY := QY m)
    (hY := read_all m)
    (hQ := fun _ h hs => ⟨fun c => ⟨fun w => (h c).1 w, (h c).2.2.2⟩, sem_eq_zero hs fun c => (h c).2.2.1⟩)

/-- The activations' array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.RingGemm

end
-- ==== Proof.Final.lean ====
/-
The kernel's result array after the run, and the activations as the launch finds them.
-/
module

public import proofs.«01_k».proof.Proof.Launch
public import Idealize.ShloMosaic.Lib.Pipeline.Value

@[expose] public section

noncomputable section

namespace Cert.RingGemm

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Each window's block is its whole array. -/
theorem place_x (j : S1024x4096.Idx) : ((cfg0.win 0).blk pt).view.emb j = j := by
  funext a
  fin_cases a <;> exact Fin.ext ((Nat.zero_add _).trans (Nat.one_mul _))
theorem place_o (j : S4096x512.Idx) : ((cfg0.win 1).blk pt).view.emb j = j := by
  funext a
  fin_cases a <;> exact Fin.ext ((Nat.zero_add _).trans (Nat.one_mul _))

theorem xV_eq : xV m c = m ((c : Thread nD τ).loc main_arg0) := funext fun j => congrArg (m ((c : Thread nD τ).loc main_arg0)) (place_x j)

/-- The one point writes its block back, and the block is the array. -/
theorem finalA_o : finalA m ρ c (1 : Fin 2) = outV (xV m) (hV m) c := by
  have h := (dats m ρ 0 c).read_blk_arrAt_eq_flushed (1 : Fin 2) (fun t t' _ _ hne => absurd ((eq_pt t).trans (eq_pt t').symm) hne) cfg0.N pt pt.isLt rfl
  funext j
  exact (congrArg (finalA m ρ c (1 : Fin 2)) (place_o j)).symm.trans (congrFun h j)

/-- The kernel's run with its result named: on every device the computed block, and the arguments unchanged. -/
theorem run_out : θ_run defs (onTc (τ := τ) (main (F := F))) (s₀ m ρ) (fun r => ∀ c : Dev nD,
    r.2.mem ((c : Thread nD τ).loc main_v1) = outV (xV m) (hV m) c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h.1 c).1 (1 : Fin 2)).trans (finalA_o m ρ c),
    ((h.1 c).1 (0 : Fin 2)).trans (finalA_x m ρ c), (h.1 c).2⟩) (run_main m ρ)

end Cert.RingGemm

end
-- ==== Proof.Scale.lean ====
/-
The quantising step on the extended reals: dividing by the scale and clipping on both sides, as the reference does, and
multiplying by the inverse scale and clipping above, as the kernel does, give one value for a nonnegative element.
-/
module

public import Idealize.ShloMosaic.PureOps
public import Idealize.ShloMosaic.PureOps.Ideal.Laws

@[expose] public section

noncomputable section

namespace Cert.RingGemm

open Idealize.ShloMosaic

/-! ## The constants -/

theorem bits_448 : Ideal.ofBits .f32 0x43E00000#32 = ((448 : ℝ) : EReal) := by
  simp [Ideal.ofBits, Ideal.ieee]; rw [← EReal.coe_mul]; norm_num
theorem bits_neg448 : Ideal.ofBits .f32 0xC3E00000#32 = ((-448 : ℝ) : EReal) := by
  simp [Ideal.ofBits, Ideal.ieee]; rw [← EReal.coe_mul]; norm_num
theorem bits_bot : Ideal.ofBits .f32 0xFF800000#32 = ⊥ := by simp [Ideal.ofBits, Ideal.ieee]

/-! ## Division off zero -/

theorem div_ne {x y : EReal} (h : y ≠ 0) : Ideal.div x y = x * y⁻¹ := by unfold Ideal.div; rw [if_neg h]

theorem coe_ne {r : ℝ} (h : r ≠ 0) : (r : EReal) ≠ 0 := fun e => h (EReal.coe_eq_zero.mp e)

theorem div_coe (x : EReal) {r : ℝ} (h : r ≠ 0) : Ideal.div x (r : EReal) = x * ((r⁻¹ : ℝ) : EReal) := by
  rw [div_ne (coe_ne h), EReal.coe_inv]

/-! ## The two ways to quantise -/

/-- The kernel's: by the inverse scale, clipped above. -/
def byInverse (a y : EReal) : EReal := min (y * Ideal.div ((448 : ℝ) : EReal) a) ((448 : ℝ) : EReal) * Ideal.div a ((448 : ℝ) : EReal)
/-- The reference's: by the scale, clipped on both sides. -/
def byScale (a y : EReal) : EReal :=
  min ((448 : ℝ) : EReal) (max ((-448 : ℝ) : EReal) (Ideal.div y (Ideal.div a ((448 : ℝ) : EReal)))) * Ideal.div a ((448 : ℝ) : EReal)

/-- An all-zero product: the scale is zero, and so are both results. -/
theorem quantise_zero (y : EReal) : byInverse 0 y = byScale 0 y := by
  unfold byInverse byScale
  rw [div_coe 0 (by norm_num : (448 : ℝ) ≠ 0), zero_mul, mul_zero, mul_zero]

/-- An infinite maximum: both quotients are zero. -/
theorem quantise_top (y : EReal) : byInverse ⊤ y = byScale ⊤ y := by
  unfold byInverse byScale
  have e : Ideal.div ⊤ ((448 : ℝ) : EReal) = ⊤ := by
    rw [div_coe ⊤ (by norm_num : (448 : ℝ) ≠ 0), EReal.top_mul_coe_of_pos (by norm_num)]
  rw [e, div_ne EReal.top_ne_zero, div_ne EReal.top_ne_zero, EReal.inv_top, mul_zero, mul_zero]
  have h1 : ((-448 : ℝ) : EReal) ≤ 0 := by exact_mod_cast (by norm_num : (-448 : ℝ) ≤ 0)
  have h2 : (0 : EReal) ≤ ((448 : ℝ) : EReal) := by exact_mod_cast (by norm_num : (0 : ℝ) ≤ 448)
  rw [max_eq_right h1, min_eq_left h2, min_eq_right h2]

/-- A positive finite maximum: the two quotients are one number, and it is not negative. -/
theorem quantise_pos {r : ℝ} (hr : 0 < r) {y : EReal} (hy : 0 ≤ y) : byInverse (r : EReal) y = byScale (r : EReal) y := by
  unfold byInverse byScale
  have h448 : (448 : ℝ) ≠ 0 := by norm_num
  have e : Ideal.div (r : EReal) ((448 : ℝ) : EReal) = ((r * 448⁻¹ : ℝ) : EReal) := by rw [div_coe _ h448, ← EReal.coe_mul]
  have e2 : Ideal.div y ((r * 448⁻¹ : ℝ) : EReal) = y * ((448 * r⁻¹ : ℝ) : EReal) := by
    rw [div_coe _ (mul_ne_zero hr.ne' (inv_ne_zero h448)), mul_inv, inv_inv, mul_comm r⁻¹]
  have e3 : Ideal.div ((448 : ℝ) : EReal) (r : EReal) = ((448 * r⁻¹ : ℝ) : EReal) := by rw [div_coe _ hr.ne', ← EReal.coe_mul]
  rw [e, e2, e3]
  have h0 : (0 : EReal) ≤ y * ((448 * r⁻¹ : ℝ) : EReal) :=
    mul_nonneg hy (by exact_mod_cast (by positivity : (0 : ℝ) ≤ 448 * r⁻¹))
  have h1 : ((-448 : ℝ) : EReal) ≤ 0 := by exact_mod_cast (by norm_num : (-448 : ℝ) ≤ 0)
  rw [max_eq_right (h1.trans h0), min_comm]

/-- The two agree for every nonnegative maximum and element. -/
theorem quantise {a y : EReal} (ha : 0 ≤ a) (hy : 0 ≤ y) : byInverse a y = byScale a y := by
  induction a with
  | bot => exact absurd ha (by simp)
  | top => exact quantise_top y
  | coe r =>
    rcases (EReal.coe_nonneg.mp ha).eq_or_lt with h | h
    · rw [← h]; exact quantise_zero y
    · exact quantise_pos h hy

end Cert.RingGemm

end
-- ==== Proof.Largest.lean ====
/-
The largest element of an array on the extended reals, by what bounds it: a reduction by maximum from minus infinity is
at most `b` exactly when every element is.
-/
module

public import proofs.«01_k».proof.Proof.Scale
public import Idealize.ShloMosaic.PureOps.Reduce

@[expose] public section

noncomputable section

namespace Cert.RingGemm

open Idealize.ShloMosaic

theorem foldl_max_le {ι : Type} (f : ι → EReal) (b : EReal) : ∀ (l : List ι) (a : EReal),
    l.foldl (fun r i => max r (f i)) a ≤ b ↔ a ≤ b ∧ ∀ i ∈ l, f i ≤ b
  | [], a => by simp
  | x :: l, a => by
    rw [List.foldl_cons, foldl_max_le f b l, max_le_iff]
    simp only [List.mem_cons, forall_eq_or_imp, and_assoc]

theorem mem_all {s : Shape} (i : s.Idx) : i ∈ (List.finRange s.numel).map s.rowMajor.symm :=
  List.mem_map.mpr ⟨s.rowMajor i, List.mem_finRange _, Equiv.symm_apply_apply ..⟩

/-- The kernel's reduction over every axis. -/
theorem multiReduction_le {s t : Shape} {axes : List (Fin s.rank)} (x : FVec Ideal s .f32) (h : s.Reduces axes t)
    (hφ : FKind.Formats .f32)
    (hacc : (0xFF800000#32 : BitVec 32) = FKind.maximumf.neutral .f32 hφ) (ht : ∀ k, t.size k = 1) (j : t.Idx) (b : EReal) :
    multiReduction .maximumf axes t x (0xFF800000#32 : BitVec 32) h hφ hacc j ≤ b ↔ ∀ i, x i ≤ b := by
  rw [multiReduction_maximumf_eq_reduceFold _ _ h hφ hacc, reduceFold_eq_foldl_of_size_one h ht]
  show List.foldl (fun r i => max r (x i)) (Ideal.ofBits .f32 0xFF800000#32) _ ≤ b ↔ _
  rw [bits_bot, foldl_max_le]
  exact ⟨fun H i => H.2 i (mem_all i), fun H => ⟨bot_le, fun i _ => H i⟩⟩

/-- The reference's reduction to one number. -/
theorem hostReduce_le {s t u : Shape} [Subsingleton t.Idx] {axes : List (Fin s.rank)} (x : FVec Ideal s .f32) (h : s.ReducesTo axes t)
    (hu : 0 < u.numel) (j : t.Idx) (b : EReal) :
    Host.reduce FloatOps.maximumf x (constant u .f32 0xFF800000#32) h hu j ≤ b ↔ ∀ i, x i ≤ b := by
  rw [Host.reduce_eq_foldl]
  show List.foldl (fun r i => max r (x i)) (Ideal.ofBits .f32 0xFF800000#32) _ ≤ b ↔ _
  rw [bits_bot, foldl_max_le]
  exact ⟨fun H i => H.2 i (List.mem_filter.mpr ⟨mem_all i, decide_eq_true (Subsingleton.elim _ _)⟩), fun H => ⟨bot_le, fun i _ => H i⟩⟩

end Cert.RingGemm

end
-- ==== Proof.Product.lean ====
/-
The kernel's rectified product on the extended reals: whichever rows a device multiplied itself or received, its result's
entry is the entry of the whole product at the device's columns.
-/
module

public import proofs.«01_k».proof.Proof.Tiles
public import proofs.«01_k».proof.Proof.Largest
public import Idealize.ShloMosaic.Lib.MatmulPlain
public import Idealize.ShloMosaic.Lib.ValueLayout
public import Idealize.ShloMosaic.Lib.Layout

@[expose] public section

noncomputable section

namespace Cert.RingGemm

open Cert.KernelIdeal Cert.KernelIdeal.Gen
open Idealize.ShloMosaic
open Idealize.ShloMosaic.ValueIdx

/-- A matrix of 4096 rows and columns on four devices, by rows. -/
abbrev WX : Shape := ⟨2, ![4096, 4096]⟩
/-- A matrix of 4096 rows and 2048 columns on four devices, by columns. -/
abbrev WO : Shape := ⟨2, ![4096, 2048]⟩

/-- The rectified product of the whole matrices. -/
def relu (x : WX.Idx → EReal) (w : WO.Idx → EReal) (r : Fin 4096) (l : Fin 2048) : EReal :=
  max (∑ k : Fin 4096, x (ix2 r k) * w (ix2 k l)) 0

theorem relu_nonneg (x : WX.Idx → EReal) (w : WO.Idx → EReal) (r : Fin 4096) (l : Fin 2048) : 0 ≤ relu x w r l := le_max_right _ _

variable (X : Dev nD → Vec Ideal S1024x4096 .bf16) (Wh : Dev nD → Vec Ideal S4096x512 .f32)

/-- On the extended reals narrowing the weights changes nothing. -/
theorem weight_eq (c : Dev nD) : weightV Wh c = Wh c := by
  unfold weightV k0_pay2
  show shapeCast S4096x512 (shapeCast S4096x512 (Wh c) _) _ = Wh c
  rw [shapeCast_self, shapeCast_self]

theorem own_entry (c : Dev nD) (a : Fin 1024) (b : Fin 512) :
    ownV X Wh c (ix2 a b) = max (∑ k : Fin 4096, X c (ix2 a k) * Wh c (ix2 k b)) 0 := by
  unfold ownV
  rw [weight_eq]
  show max (FloatOps.matmul (DotDims.plain 1024 4096 512) none (shapeCast S1024x4096 (X c) shapeCasts_S1024x4096_S1024x4096) (Wh c)
    (constant S1024x512 .f32 0x00000000#32) (ix2 a b)) (Ideal.ofBits .f32 0x00000000#32) = _
  rw [Ideal.matmul_plain_apply, shapeCast_self]
  show max (Ideal.ofBits .f32 0x00000000#32 + _) _ = _
  rw [Ideal.ofBits_zero_f32, zero_add]

theorem tile_entry (c : Dev nD) (p : Fin 24) (a : Fin 128) (b : Fin 512) :
    tileV X Wh c p (ix2 a b) = max (∑ k : Fin 4096, slabV X c p (ix3 (0 : Fin 1) a k) * Wh c (ix2 k b)) 0 := by
  unfold tileV
  rw [weight_eq]
  show max (FloatOps.matmul (DotDims.plain 128 4096 512) none (shapeCast S128x4096 (slabV X c p) shapeCasts_S1x128x4096_S128x4096) (Wh c)
    (constant S128x512 .f32 0x00000000#32) (ix2 a b)) (Ideal.ofBits .f32 0x00000000#32) = _
  rw [Ideal.matmul_plain_apply]
  show max (Ideal.ofBits .f32 0x00000000#32 + _) _ = _
  rw [Ideal.ofBits_zero_f32, zero_add]
  refine congrArg (max · 0) (Finset.sum_congr rfl fun k _ => ?_)
  rw [shapeCast_1ab_ab_apply]

/-- A row of a receive buffer is its origin's row. -/
theorem recvd_entry (b : Bool) (c : Dev nD) (i : S12x128x4096.Idx) (j : ℕ) (k : Fin 4096) (r : Fin 1024) (h0 : (i 0).val = j)
    (hr : r.val = row0 b j + (i 1).val) (h2 : i 2 = k) : recvd X b c i = X (origin b j c) (ix2 r k) := by
  subst h0 h2
  have hlt : row0 b (i 0).val + (i 1).val < 1024 := by rw [← hr]; exact r.isLt
  have e : (⟨row0 b (i 0).val + (i 1).val, hlt⟩ : Fin 1024) = r := Fin.ext hr.symm
  rw [← e]
  exact congrArg (X _) ((eq_ix2 _).trans rfl)

theorem slab_entry (c : Dev nD) (p : Fin 24) (a : Fin 128) (k : Fin 4096) (r : Fin 1024) (hr : r.val = row0 (way p) (p.val / 2) + a.val) :
    slabV X c p (ix3 (0 : Fin 1) a k) = X (origin (way p) (p.val / 2) c) (ix2 r k) :=
  recvd_entry X (way p) c ((slotR p).emb (ix3 (0 : Fin 1) a k)) _ k r (by show p.val / 2 + 1 * 0 = p.val / 2; omega)
    (by rw [hr]; show _ = _ + (0 + 1 * a.val); omega) (Fin.ext (by show 0 + 1 * k.val = k.val; omega))

variable {x : WX.Idx → EReal} {w : WO.Idx → EReal}

/-- Device `c`'s block of rows. -/
theorem row_entry (hX : ∀ c, X c = Layout.block ⟨2, ![1024, 4096]⟩ WX 0 4 c x) (d : Dev nD) (a : Fin 1024) (k : Fin 4096)
    (r : Fin 4096) (hr : r.val = d.val * 1024 + a.val) : X d (ix2 a k) = x (ix2 r k) := by
  rw [hX, Layout.block_apply]
  refine congrArg x (funext fun b => Fin.ext ?_)
  match b with
  | ⟨0, _⟩ => exact hr.symm
  | ⟨1, _⟩ => rfl

/-- Device `c`'s block of columns. -/
theorem col_entry (hW : ∀ c, Wh c = Layout.block ⟨2, ![4096, 512]⟩ WO 1 4 c w) (c : Dev nD) (k : Fin 4096) (b : Fin 512)
    (l : Fin 2048) (hl : l.val = c.val * 512 + b.val) : Wh c (ix2 k b) = w (ix2 k l) := by
  rw [hW, Layout.block_apply]
  refine congrArg w (funext fun q => Fin.ext ?_)
  match q with
  | ⟨0, _⟩ => rfl
  | ⟨1, _⟩ => exact hl.symm

variable (hX : ∀ c, X c = Layout.block ⟨2, ![1024, 4096]⟩ WX 0 4 c x) (hW : ∀ c, Wh c = Layout.block ⟨2, ![4096, 512]⟩ WO 1 4 c w)
include hX hW

theorem own_relu (c : Dev nD) (a : Fin 1024) (b : Fin 512) (r : Fin 4096) (l : Fin 2048) (hr : r.val = c.val * 1024 + a.val)
    (hl : l.val = c.val * 512 + b.val) : ownV X Wh c (ix2 a b) = relu x w r l := by
  rw [own_entry]
  exact congrArg (max · 0) (Finset.sum_congr rfl fun k _ => by rw [row_entry X hX c a k r hr, col_entry Wh hW c k b l hl])

theorem tile_relu (c : Dev nD) (p : Fin 24) (a : Fin 128) (b : Fin 512) (r : Fin 4096) (l : Fin 2048) (hr : r.val = 128 * blk c p + a.val)
    (hl : l.val = c.val * 512 + b.val) : tileV X Wh c p (ix2 a b) = relu x w r l := by
  have h8 := row0_le (way p) (p.val / 2)
  have hd : 128 * (row0 (way p) (p.val / 2) / 128) = row0 (way p) (p.val / 2) := by unfold row0; split <;> omega
  have ha := a.isLt
  rw [tile_entry]
  refine congrArg (max · 0) (Finset.sum_congr rfl fun k _ => ?_)
  rw [slab_entry X c p a k ⟨row0 (way p) (p.val / 2) + a.val, by omega⟩ rfl, col_entry Wh hW c k b l hl]
  rw [row_entry X hX _ _ k r (by unfold blk at hr; show _ = _ + (_ + _); omega)]

/-- Every entry of the kernel's product is the whole product's at the device's columns. -/
theorem prod_relu (c : Dev nD) (i : S4096x512.Idx) (l : Fin 2048) (hl : l.val = c.val * 512 + (i 1).val) :
    prodV X Wh c i = relu x w (i 0) l := by
  have h0 : (i 0).val < 4096 := (i 0).isLt
  by_cases h : (i 0).val / 1024 = c.val
  · have e := prodV_own X Wh c i (ix2 (⟨(i 0).val % 1024, Nat.mod_lt _ (by decide)⟩ : Fin 1024) (i 1)) (by show _ = _ + (i 0).val % 1024; omega) rfl
    rw [e]
    exact own_relu X Wh hX hW c _ _ (i 0) l (by show _ = _ + (i 0).val % 1024; omega) hl
  · rcases blk_cover c ⟨(i 0).val / 128, by omega⟩ with h' | ⟨p, hp⟩
    · exact absurd (by have : (i 0).val / 128 / 8 = c.val := h'; omega) h
    · have hp' : blk c p = (i 0).val / 128 := hp
      have e := prodV_tile X Wh c p i (ix2 (⟨(i 0).val % 128, Nat.mod_lt _ (by decide)⟩ : Fin 128) (i 1)) (by show _ = _ + (i 0).val % 128; omega) rfl
      rw [e]
      exact tile_relu X Wh hX hW c p _ _ (i 0) l (by show _ = _ + (i 0).val % 128; omega) hl

end Cert.RingGemm

end
-- ==== Proof.Maxima.lean ====
/-
The kernel's global maximum on the extended reals, by what bounds it: every entry of the whole rectified product.
-/
module

public import proofs.«01_k».proof.Proof.Product

@[expose] public section

set_option backward.proofsInPublic true

noncomputable section

namespace Cert.RingGemm

open Cert.KernelIdeal Cert.KernelIdeal.Gen
open Idealize.ShloMosaic
open Idealize.ShloMosaic.ValueIdx

theorem cast_le {s t : Shape} (T : FVec Ideal s .f32) (h : s.ShapeCasts t) (b : EReal) : (∀ i, shapeCast t T h i ≤ b) ↔ ∀ i, T i ≤ b :=
  ((Shape.reshapeEquiv h).surjective.forall (p := fun i => T i ≤ b)).symm

theorem pairs_le {n k : ℕ} (T : (⟨2, ![n, k]⟩ : Shape).Idx → EReal) (b : EReal) : (∀ i, T i ≤ b) ↔ ∀ (r : Fin n) (l : Fin k), T (ix2 r l) ≤ b :=
  ⟨fun h r l => h _, fun h i => by rw [eq_ix2 i]; exact h _ _⟩

theorem ones1 : ∀ k, S1.size k = 1 := by decide

/-- A vector of one element, read as a number. -/
theorem sole (v : FVec Ideal S1 .f32) : ∃ j, extractAt ![0, 0, 0] (shapeCast S1x1x1 v shapeCasts_S1_S1x1x1) inpos_S1x1x1_p0_0_0 = v j := ⟨_, rfl⟩

theorem own_max_le (T : FVec Ideal S1024x512 .f32) (b : EReal) : k0_pay4 T ≤ b ↔ ∀ i, T i ≤ b := by
  unfold k0_pay4
  dsimp only
  obtain ⟨j, e⟩ := sole (multiReduction .maximumf [1, 2] S1 (shapeCast S1x1024x512 T shapeCasts_S1024x512_S1x1024x512)
    0xFF800000#32 reduces_S1x1024x512_S1 (.inl rfl) rfl)
  rw [e, ← cast_le T shapeCasts_S1024x512_S1x1024x512]
  exact multiReduction_le _ _ _ _ ones1 j b

theorem tile_max_le (T : FVec Ideal S128x512 .f32) (b : EReal) : tileMax T ≤ b ↔ ∀ i, T i ≤ b := by
  unfold tileMax
  obtain ⟨j, e⟩ := sole (multiReduction .maximumf [1, 2] S1 (shapeCast S1x128x512 T shapeCasts_S128x512_S1x128x512)
    0xFF800000#32 reduces_S1x128x512_S1 (.inl rfl) rfl)
  rw [e, ← cast_le T shapeCasts_S128x512_S1x128x512]
  exact multiReduction_le _ _ _ _ ones1 j b

theorem pair_max (a b : Ideal .f32) : Scalar.maximumf a b = max a b := rfl

/-- The combination of the four maxima. -/
theorem four_maxima (a b c d : Ideal .f32) : k0_pay55 (k0_pay54 a (fun _ => b) (fun _ => c)) (fun _ => d) = max (max (max a b) c) d := rfl

/-- Four places round the ring reach every device. -/
theorem ups (c d : Dev nD) : d = c ∨ d = up 3 c ∨ d = up 2 c ∨ d = up 1 c := by revert c d; decide

variable (X : Dev nD → Vec Ideal S1024x4096 .bf16) (Wh : Dev nD → Vec Ideal S4096x512 .f32)

theorem runMax_le (c : Dev nD) (b : EReal) : ∀ n, n ≤ 24 →
    (runMax X Wh c n ≤ b ↔ (∀ i, ownV X Wh c i ≤ b) ∧ ∀ p : Fin 24, p.val < n → ∀ i, tileV X Wh c p i ≤ b)
  | 0, _ => by
    rw [runMax, own_max_le]
    exact ⟨fun h => ⟨h, fun p hp => absurd hp (Nat.not_lt_zero _)⟩, fun h => h.1⟩
  | n + 1, hn => by
    rw [runMax, pair_max, max_le_iff, tile_max_le, runMax_le c b n (by omega), and_assoc]
    have e : (Fin.ofNat 24 n).val = n := Nat.mod_eq_of_lt (by omega)
    refine and_congr_right fun _ => ⟨fun h p hp => ?_, fun h => ⟨fun p hp => h p (by omega), h _ (by rw [e]; omega)⟩⟩
    rcases Nat.lt_succ_iff_lt_or_eq.mp hp with h' | h'
    · exact h.1 p h'
    · rw [show p = Fin.ofNat 24 n from Fin.ext (h'.trans e.symm)]; exact h.2

theorem maxV_le (c : Dev nD) (b : EReal) : maxV X Wh c ≤ b ↔ (∀ i, ownV X Wh c i ≤ b) ∧ ∀ p i, tileV X Wh c p i ≤ b := by
  unfold maxV
  rw [runMax_le X Wh c b 24 le_rfl]
  exact and_congr_right fun _ => ⟨fun h p => h p p.isLt, fun h p _ => h p⟩

variable {x : WX.Idx → EReal} {w : WO.Idx → EReal}
variable (hX : ∀ c, X c = Layout.block ⟨2, ![1024, 4096]⟩ WX 0 4 c x) (hW : ∀ c, Wh c = Layout.block ⟨2, ![4096, 512]⟩ WO 1 4 c w)

/-- Column `l` of device `c`. -/
def col (c : Dev nD) (l : Fin 512) : Fin 2048 := ⟨c.val * 512 + l.val, by have : c.val < 4 := c.isLt; have := l.isLt; omega⟩

theorem col_of (l : Fin 2048) : ∃ (c : Dev nD) (k : Fin 512), col c k = l := by
  have := l.isLt
  exact ⟨⟨l.val / 512, by show _ < 4; omega⟩, ⟨l.val % 512, Nat.mod_lt _ (by decide)⟩, Fin.ext (by show l.val / 512 * 512 + l.val % 512 = l.val; omega)⟩

include hX hW

/-- A device's own maximum bounds its columns. -/
theorem device_max_le (c : Dev nD) (b : EReal) : maxV X Wh c ≤ b ↔ ∀ (r : Fin 4096) (l : Fin 512), relu x w r (col c l) ≤ b := by
  have hc : c.val < 4 := c.isLt
  rw [maxV_le]
  constructor
  · rintro ⟨h1, h2⟩ r l
    have hr := r.isLt
    rcases blk_cover c ⟨r.val / 128, by omega⟩ with h | ⟨p, hp⟩
    · have h' : r.val / 128 / 8 = c.val := h
      rw [← own_relu X Wh hX hW c ⟨r.val % 1024, Nat.mod_lt _ (by decide)⟩ l r (col c l) (by show _ = _ + r.val % 1024; omega) rfl]
      exact h1 _
    · have hp' : blk c p = r.val / 128 := hp
      rw [← tile_relu X Wh hX hW c p ⟨r.val % 128, Nat.mod_lt _ (by decide)⟩ l r (col c l) (by show _ = _ + r.val % 128; omega) rfl]
      exact h2 p _
  · intro h
    refine ⟨(pairs_le (n := 1024) (k := 512) _ b).mpr fun a l => ?_, fun p => (pairs_le (n := 128) (k := 512) _ b).mpr fun a l => ?_⟩
    · have ha := a.isLt
      rw [own_relu X Wh hX hW c a l ⟨c.val * 1024 + a.val, by omega⟩ (col c l) rfl rfl]
      exact h _ _
    · have ha := a.isLt
      have hb := blk_lt c p
      rw [tile_relu X Wh hX hW c p a l ⟨128 * blk c p + a.val, by omega⟩ (col c l) rfl rfl]
      exact h _ _

/-- The maximum every device ends with bounds the whole product. -/
theorem global_max_le (c : Dev nD) (b : EReal) :
    k0_pay55 (max3 X Wh c) (maxAt X Wh c 1) ≤ b ↔ ∀ (r : Fin 4096) (l : Fin 2048), relu x w r l ≤ b := by
  unfold max3 maxAt
  rw [four_maxima, max_le_iff, max_le_iff, max_le_iff]
  simp only [device_max_le X Wh hX hW]
  constructor
  · rintro ⟨⟨⟨h0, h3⟩, h2⟩, h1⟩ r l
    obtain ⟨d, k, rfl⟩ := col_of l
    rcases ups c d with e | e | e | e <;> subst e
    · exact h0 r k
    · exact h3 r k
    · exact h2 r k
    · exact h1 r k
  · exact fun h => ⟨⟨⟨fun r l => h r _, fun r l => h r _⟩, fun r l => h r _⟩, fun r l => h r _⟩

end Cert.RingGemm

end
-- ==== Proof.RefValue.lean ====
/-
The reference's run: its result array in terms of its two arguments, over any floats.
-/
module

public import proofs.«01_k».proof.Proof.Gen.ReferenceIdeal
public import proofs.«01_k».proof.Proof.Gen.ReferenceIdeal.Frame
public import proofs.«01_k».proof.Proof.Gen.ReferenceIdeal.Value
public import Idealize.ShloMosaic.Lib.Claim

@[expose] public section

noncomputable section

namespace Cert.Whole

open Cert.ReferenceIdeal Cert.ReferenceIdeal.Gen
open Idealize.ShloMosaic Idealize.ShloMosaic.TcCoe Idealize.SL.Sem

variable {F : FTy → Type} [FloatOps F]

/-- The rectified product. -/
def prodR (x : Vec F S4096x4096 .bf16) (w : Vec F S4096x2048 .f32) : FVec F S4096x2048 .f32 :=
  maximumf (Host.dotGeneral dot_S4096x4096_S4096x2048_S4096x2048_1_0_0_1_n_n none (extf .f32 x bitsLt_bf16_f32) w)
    (broadcastInDim S4096x2048 ![] bcast_S_S4096x2048 (constant S_ .f32 0x00000000#32))
/-- Its largest magnitude. -/
def maxR (y : FVec F S4096x2048 .f32) : FVec F S_ .f32 :=
  Host.reduce FloatOps.maximumf (Host.absf y) (constant S_ .f32 0xFF800000#32) reducesTo_S4096x2048_S_d0_1 h_S_
/-- The scale, as a matrix of one element. -/
def scaleR (y : FVec F S4096x2048 .f32) : FVec F S1x1 .f32 :=
  shapeCast S1x1 (Host.divf (maxR y) (constant S_ .f32 0x43E00000#32)) shapeCasts_S_S1x1
/-- The reference's result. -/
def outR (x : Vec F S4096x4096 .bf16) (w : Vec F S4096x2048 .f32) : FVec F S4096x2048 .f32 := k0_pay1 (scaleR (prodR x w)) (prodR x w)

variable (m : (ℓ : Loc nD τ sig) → Buf (Elt F) ℓ) (ρ : Dev nD → PrngReg) (c : Dev nD)

/-- What the kernel region finds in its first operand. -/
theorem entry_product : V m c main_v3 = prodR (m ((c : Thread nD τ).loc main_arg0)) (m ((c : Thread nD τ).loc main_arg1)) := by
  unfold V hostOps0
  after_results
  rfl
/-- And in its second. -/
theorem entry_scale : V m c main_v7 = scaleR (prodR (m ((c : Thread nD τ).loc main_arg0)) (m ((c : Thread nD τ).loc main_arg1))) := by
  unfold V hostOps0
  after_results
  rfl

/-! ## The region's one point -/

/-- The region's one point. -/
def t₀ : Fin cfg0.N := ⟨0, by decide⟩

/-- Every window's block is its whole array. -/
theorem place0 (j : S4096x2048.Idx) : ((cfg0.win 0).blk t₀).view.emb j = j := by
  funext a
  fin_cases a <;> exact Fin.ext ((Nat.zero_add _).trans (Nat.one_mul _))
theorem place1 (j : S1x1.Idx) : ((cfg0.win 1).blk t₀).view.emb j = j := by
  funext a
  fin_cases a <;> exact Fin.ext ((Nat.zero_add _).trans (Nat.one_mul _))
theorem place2 (j : S4096x2048.Idx) : ((cfg0.win 2).blk t₀).view.emb j = j := by
  funext a
  fin_cases a <;> exact Fin.ext ((Nat.zero_add _).trans (Nat.one_mul _))

theorem origin_zero : (![0, 0] : Fin 2 → ℕ) = fun _ => 0 := by funext a; fin_cases a <;> rfl

/-- What the body leaves is its payload at the whole operands. -/
theorem body_value (y : Vec F S4096x2048 .f32) (s : Vec F S1x1 .f32) : out0_2 y s = k0_pay1 s y := by
  unfold out0_2
  rw [View.canon_unit_zero origin_zero, View.ld_unit_zero origin_zero, View.ld_unit_zero origin_zero]

/-- The result array after the run. -/
theorem result_eq : (dats m 0 c).arrAt 2 cfg0.N = outR (m ((c : Thread nD τ).loc main_arg0)) (m ((c : Thread nD τ).loc main_arg1)) := by
  have e0 : iblk m c 0 t₀ = V m c main_v3 := funext fun j => congrArg (V m c main_v3) (place0 j)
  have e1 : iblk m c 1 t₀ = V m c main_v7 := funext fun j => congrArg (V m c main_v7) (place1 j)
  have h := Value.blocks2 m c t₀ (flush0_2 t₀)
  rw [Value.flushed2, e0, e1, entry_product, entry_scale, body_value] at h
  funext j
  have hj := congrFun h j
  rw [← congrArg ((dats m 0 c).arrAt 2 cfg0.N) (place2 j)]
  exact hj

/-- The reference terminates without a fault, its result as computed and its arguments unchanged. -/
theorem run : θ_run defs (onTc (τ := τ) (main (F := F))) ⟨m, fun _ => 0, ρ⟩ fun r => ∀ c : Dev nD,
    r.2.mem ((c : Thread nD τ).loc main_v8) = outR (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (Value.run_blocks m ρ)

end Cert.Whole

end
-- ==== Proof.RefMath.lean ====
/-
The reference's result on the extended reals: the rectified product, its largest entry, and the quantising step at each entry.
-/
module

public import proofs.«01_k».proof.Proof.RefValue
public import proofs.«01_k».proof.Proof.Product
public import proofs.«01_k».proof.Proof.Scale
public import Idealize.ShloMosaic.Lib.StackMember

@[expose] public section

noncomputable section

namespace Cert.Whole

open Cert.ReferenceIdeal Cert.ReferenceIdeal.Gen
open Idealize.ShloMosaic Idealize.ShloMosaic.ValueIdx
open Cert.RingGemm (relu relu_nonneg byScale bits_448 bits_neg448 hostReduce_le)

variable (x : Vec Ideal S4096x4096 .bf16) (w : Vec Ideal S4096x2048 .f32)

/-- An entry of the product is the sum over the row and the column. -/
theorem product_entry (r : Fin 4096) (l : Fin 2048) :
    Host.dotGeneral (F := Ideal) (φ₁ := .f32) (φ₂ := .f32) dot_S4096x4096_S4096x2048_S4096x2048_1_0_0_1_n_n none (extf .f32 x bitsLt_bf16_f32) w (ix2 r l)
      = ∑ k : Fin 4096, x (ix2 r k) * w (ix2 k l) :=
  StackMember.dotGeneral_plain_apply (φ₁ := .f32) (φ₂ := .f32) none (extf .f32 x bitsLt_bf16_f32) w r l

theorem prodR_apply (i : S4096x2048.Idx) : prodR (F := Ideal) x w i = relu x w (i 0) (i 1) := by
  have e : prodR (F := Ideal) x w i = max (Host.dotGeneral (F := Ideal) (φ₁ := .f32) (φ₂ := .f32) dot_S4096x4096_S4096x2048_S4096x2048_1_0_0_1_n_n none (extf .f32 x bitsLt_bf16_f32) w i)
      (Ideal.ofBits .f32 0x00000000#32) := rfl
  rw [e, Ideal.ofBits_zero_f32]
  exact congrArg (fun v => max v (0 : EReal)) ((congrArg _ (eq_ix2 i)).trans (product_entry x w (i 0) (i 1)))

/-- A magnitude of the rectified product is the entry itself. -/
theorem abs_entry (y : FVec Ideal S4096x2048 .f32) (i : S4096x2048.Idx) (h : (0 : EReal) ≤ y i) : Host.absf y i = y i := by
  show max (y i) (-(y i)) = y i
  exact max_eq_left ((EReal.neg_le_neg_iff.mpr h).trans (by rw [neg_zero]; exact h))

instance : Subsingleton S_.Idx := ⟨fun a b => funext fun k => k.elim0⟩

/-- The largest magnitude, by what bounds it. -/
theorem largest_le (j : S_.Idx) (b : EReal) : maxR (prodR (F := Ideal) x w) j ≤ b ↔ ∀ (r : Fin 4096) (l : Fin 2048), relu x w r l ≤ b := by
  unfold maxR
  refine (hostReduce_le _ _ _ j b).trans ?_
  have e : ∀ i, Host.absf (prodR (F := Ideal) x w) i = relu x w (i 0) (i 1) := fun i => by
    rw [abs_entry _ i (by rw [prodR_apply]; exact relu_nonneg _ _ _ _), prodR_apply]
  exact ⟨fun h r l => by have := h (ix2 r l); rwa [e] at this, fun h i => by rw [e]; exact h _ _⟩

theorem largest_nonneg (j : S_.Idx) : (0 : EReal) ≤ maxR (prodR (F := Ideal) x w) j :=
  (relu_nonneg x w 0 0).trans ((largest_le x w j _).mp le_rfl 0 0)

/-- The region's payload at an entry, with the scale written as a quotient. -/
theorem pay_apply (y : FVec Ideal S4096x2048 .f32) (s : FVec Ideal S1x1 .f32) (a : EReal) (i : S4096x2048.Idx)
    (hs : ∀ j, s j = Ideal.div a ((448 : ℝ) : EReal)) : k0_pay1 (F := Ideal) s y i = byScale a (y i) := by
  unfold k0_pay1
  rw [shapeCast_self]
  unfold byScale
  rw [← hs (fun k => ⟨(![0, 0] : Fin 2 → ℕ) k, inpos_S1x1_p0_0 k⟩), ← bits_448, ← bits_neg448]
  rfl

/-- The scale is the largest entry over 448. -/
theorem scale_apply (y : FVec Ideal S4096x2048 .f32) (j : S1x1.Idx) (k : S_.Idx) : scaleR y j = Ideal.div (maxR y k) ((448 : ℝ) : EReal) := by
  rw [← bits_448, Subsingleton.elim k (Shape.reshapeEquiv shapeCasts_S_S1x1 j)]
  rfl

/-- The reference's result at an entry. -/
theorem outR_apply (i : S4096x2048.Idx) (k : S_.Idx) :
    outR (F := Ideal) x w i = byScale (maxR (prodR (F := Ideal) x w) k) (relu x w (i 0) (i 1)) := by
  unfold outR
  rw [pay_apply _ _ _ i (fun j => scale_apply _ j k), prodR_apply]

end Cert.Whole

end
-- ==== Proof.Alg.lean ====
/-
The kernel's result on the extended reals is the device's columns of the reference's result.
-/
module

public import proofs.«01_k».proof.Proof.Final
public import proofs.«01_k».proof.Proof.Maxima
public import proofs.«01_k».proof.Proof.RefMath

@[expose] public section

set_option backward.proofsInPublic true

noncomputable section

namespace Cert.RingGemm

open Cert.KernelIdeal Cert.KernelIdeal.Gen
open Idealize.ShloMosaic Idealize.ShloMosaic.ValueIdx

/-- The kernel's last step at an entry. -/
theorem quantised (v : Ideal .f32) (t : Vec Ideal S1x1x1 .f32) (y : Vec Ideal S4096x512 .f32) (i : S4096x512.Idx) :
    k0_pay1 (F := Ideal) (k0_pay56 v t) (k0_pay57 v t y) i = byInverse (k0_pay55 v t) (y i) := by
  unfold k0_pay1 k0_pay56 k0_pay57
  rw [shapeCast_self]
  unfold byInverse
  rw [← bits_448]
  rfl

variable (X : Dev nD → Vec Ideal S1024x4096 .bf16) (Wh : Dev nD → Vec Ideal S4096x512 .f32)
variable {x : WX.Idx → EReal} {w : WO.Idx → EReal}
variable (hX : ∀ c, X c = Layout.block ⟨2, ![1024, 4096]⟩ WX 0 4 c x) (hW : ∀ c, Wh c = Layout.block ⟨2, ![4096, 512]⟩ WO 1 4 c w)

include hX hW

/-- Every device's maximum is the reference's. -/
theorem maximum_eq (c : Dev nD) (k : Cert.ReferenceIdeal.S_.Idx) :
    k0_pay55 (F := Ideal) (max3 X Wh c) (maxAt X Wh c 1) = Cert.Whole.maxR (Cert.Whole.prodR (F := Ideal) x w) k :=
  eq_of_forall_ge_iff fun b => (global_max_le X Wh hX hW c b).trans (Cert.Whole.largest_le x w k b).symm

/-- The result's block. -/
theorem out_eq (c : Dev nD) : outV X Wh c = Layout.block ⟨2, ![4096, 512]⟩ WO 1 4 c (Cert.Whole.outR (F := Ideal) x w) := by
  funext i
  have k : Cert.ReferenceIdeal.S_.Idx := fun a => a.elim0
  rw [Layout.block_apply, Cert.Whole.outR_apply x w _ k]
  unfold outV
  rw [quantised, maximum_eq X Wh hX hW c k]
  have hp := prod_relu X Wh hX hW c i (col c (i 1)) rfl
  refine (congrArg (byInverse _) hp).trans ((quantise (Cert.Whole.largest_nonneg x w k) (relu_nonneg _ _ _ _)).trans ?_)
  exact congrArg (byScale _) (congrArg₂ (relu x w) (Fin.ext rfl) (Fin.ext rfl))

end Cert.RingGemm

end
-- ==== Proof.lean ====
/-
The proof of the certificate's claim. The run of the ring kernel is written once, for any float values (Proof/Launch.lean);
the printed program and its idealization have the same text, so both frames are read off that run. The reference's frame is
the generated one. The value claim joins that run's result (Proof/Final.lean) with the
reference's (Proof/RefValue.lean) by the equality of the two on the extended reals (Proof/Alg.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Frame
public import proofs.«01_k».proof.Proof.Gen.ReferenceIdeal.Value
public import proofs.«01_k».proof.Proof.Alg

@[expose] public section

noncomputable section

namespace Cert.Proof

open Idealize.ShloMosaic Idealize.SL.Sem Idealize.ShloMosaic.TcCoe

/-- The idealized kernel terminates without a fault, with its arguments unchanged and its semaphores at zero. -/
theorem frame_kernelIdeal : Cert.quiescent_KernelIdeal := fun m ρ _ =>
  (θ_run Cert.KernelIdeal.defs _ _).mono (fun _ h => ⟨fun c => ⟨((h.1 c).1 (0 : Fin 2)).trans (Cert.RingGemm.finalA_x m ρ c), (h.1 c).2⟩, h.2⟩)
    (Cert.RingGemm.run_main (F := Ideal) m ρ)

/-- The two programs' kernel functions are one table. -/
theorem tables : (Cert.Kernel.defs₀ (F := Bits) : Defs Cert.Kernel.nD Cert.Kernel.τ Cert.Kernel.sig (Elt Bits) Cert.Kernel.Λ₀) = Cert.KernelIdeal.defs₀ (F := Bits) := by
  funext c l a
  rcases l with ⟨_ | l, hl⟩
  · rcases a with ⟨t, s⟩
    cases c <;> rfl
  · exact absurd hl (by omega)
theorem bodies : (Cert.Kernel.defs (F := Bits)) = Cert.KernelIdeal.defs (F := Bits) :=
  (congrArg (Pipeline.defs (Cert.Kernel.pcfgs (F := Bits))) tables :)

/-- So does the kernel on machine floats: the same text. -/
theorem frame_kernel : Cert.quiescent_Kernel := fun m ρ _ => by
  rw [bodies]
  exact (θ_run Cert.KernelIdeal.defs _ _).mono (fun _ h => ⟨fun c => ⟨((h.1 c).1 (0 : Fin 2)).trans (Cert.RingGemm.finalA_x m ρ c), (h.1 c).2⟩, h.2⟩)
    (Cert.RingGemm.run_main (F := Bits) m ρ)

theorem frame_referenceIdeal : Cert.quiescent_ReferenceIdeal := fun m ρ _ => Cert.ReferenceIdeal.Gen.frame m ρ

/-- On the extended reals the kernel leaves on every device its columns of the reference's result. -/
theorem algebraic : Cert.algebraic_KernelIdeal_ReferenceIdeal := fun m ρ m' ρ' _ hargs =>
  ⟨Cert.Whole.outR (F := Ideal) (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono (fun _ h c => ⟨(h c).1.trans (Cert.RingGemm.out_eq _ _
      (fun d => (Cert.RingGemm.xV_eq m d).trans (hargs d).1) (fun d => (hargs d).2) c), (h c).2⟩) (Cert.RingGemm.run_out (F := Ideal) m ρ),
    (θ_run Cert.ReferenceIdeal.defs _ _).mono (fun _ h => h 0) (Cert.Whole.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
